-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def Pre_KernelErf (m : (ℓ : Loc Cert.KernelErf.nD Cert.KernelErf.τ Cert.KernelErf.sig) → Buf (Elt Bits) ℓ) : Prop :=
  True

def Pre_KernelErfIdeal (m : (ℓ : Loc Cert.KernelErfIdeal.nD Cert.KernelErfIdeal.τ Cert.KernelErfIdeal.sig) → Buf (Elt Ideal) ℓ) : Prop :=
  True

def Pre_KernelErfIdeal_finite [hPre_finite : Cert.Pre_finite.Facts] (m : (ℓ : Loc Cert.KernelErfIdeal.nD Cert.KernelErfIdeal.τ Cert.KernelErfIdeal.sig) → Buf (Elt Ideal) ℓ) : Prop :=
  ∀ c : Dev Cert.KernelErfIdeal.nD,
    (Cert.Pre_finite.fn (F := Ideal) (m ((c.tc : Thread Cert.KernelErfIdeal.nD Cert.KernelErfIdeal.τ).loc Cert.KernelErfIdeal.main_arg0)) (m ((c.tc : Thread Cert.KernelErfIdeal.nD Cert.KernelErfIdeal.τ).loc Cert.KernelErfIdeal.main_arg1)) (m ((c.tc : Thread Cert.KernelErfIdeal.nD Cert.KernelErfIdeal.τ).loc Cert.KernelErfIdeal.main_arg2)) (m ((c.tc : Thread Cert.KernelErfIdeal.nD Cert.KernelErfIdeal.τ).loc Cert.KernelErfIdeal.main_arg3)) (m ((c.tc : Thread Cert.KernelErfIdeal.nD Cert.KernelErfIdeal.τ).loc Cert.KernelErfIdeal.main_arg4)) (m ((c.tc : Thread Cert.KernelErfIdeal.nD Cert.KernelErfIdeal.τ).loc Cert.KernelErfIdeal.main_arg5)) (m ((c.tc : Thread Cert.KernelErfIdeal.nD Cert.KernelErfIdeal.τ).loc Cert.KernelErfIdeal.main_arg6)) (m ((c.tc : Thread Cert.KernelErfIdeal.nD Cert.KernelErfIdeal.τ).loc Cert.KernelErfIdeal.main_arg7)) (m ((c.tc : Thread Cert.KernelErfIdeal.nD Cert.KernelErfIdeal.τ).loc Cert.KernelErfIdeal.main_arg8)) (m ((c.tc : Thread Cert.KernelErfIdeal.nD Cert.KernelErfIdeal.τ).loc Cert.KernelErfIdeal.main_arg9))) = (fun _ => 1#1)

def Pre_ReferenceErfIdeal (m : (ℓ : Loc Cert.ReferenceErfIdeal.nD Cert.ReferenceErfIdeal.τ Cert.ReferenceErfIdeal.sig) → Buf (Elt Ideal) ℓ) : Prop :=
  True

def Pre_ReferenceErfIdeal_finite [hPre_finite : Cert.Pre_finite.Facts] (m : (ℓ : Loc Cert.ReferenceErfIdeal.nD Cert.ReferenceErfIdeal.τ Cert.ReferenceErfIdeal.sig) → Buf (Elt Ideal) ℓ) : Prop :=
  ∀ c : Dev Cert.ReferenceErfIdeal.nD,
    (Cert.Pre_finite.fn (F := Ideal) (m ((c.tc : Thread Cert.ReferenceErfIdeal.nD Cert.ReferenceErfIdeal.τ).loc Cert.ReferenceErfIdeal.main_arg0)) (m ((c.tc : Thread Cert.ReferenceErfIdeal.nD Cert.ReferenceErfIdeal.τ).loc Cert.ReferenceErfIdeal.main_arg1)) (m ((c.tc : Thread Cert.ReferenceErfIdeal.nD Cert.ReferenceErfIdeal.τ).loc Cert.ReferenceErfIdeal.main_arg2)) (m ((c.tc : Thread Cert.ReferenceErfIdeal.nD Cert.ReferenceErfIdeal.τ).loc Cert.ReferenceErfIdeal.main_arg3)) (m ((c.tc : Thread Cert.ReferenceErfIdeal.nD Cert.ReferenceErfIdeal.τ).loc Cert.ReferenceErfIdeal.main_arg4)) (m ((c.tc : Thread Cert.ReferenceErfIdeal.nD Cert.ReferenceErfIdeal.τ).loc Cert.ReferenceErfIdeal.main_arg5)) (m ((c.tc : Thread Cert.ReferenceErfIdeal.nD Cert.ReferenceErfIdeal.τ).loc Cert.ReferenceErfIdeal.main_arg6)) (m ((c.tc : Thread Cert.ReferenceErfIdeal.nD Cert.ReferenceErfIdeal.τ).loc Cert.ReferenceErfIdeal.main_arg7)) (m ((c.tc : Thread Cert.ReferenceErfIdeal.nD Cert.ReferenceErfIdeal.τ).loc Cert.ReferenceErfIdeal.main_arg8)) (m ((c.tc : Thread Cert.ReferenceErfIdeal.nD Cert.ReferenceErfIdeal.τ).loc Cert.ReferenceErfIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_KernelErf [hKernelErf : Cert.KernelErf.Facts] : Prop :=
  ∀ (m : (ℓ : Loc Cert.KernelErf.nD Cert.KernelErf.τ Cert.KernelErf.sig) → Buf (Elt Bits) ℓ) (g : Dev Cert.KernelErf.nD → PrngReg), Pre_KernelErf m →
    θ_run (Cert.KernelErf.defs (F := Bits)) (onTc (τ := Cert.KernelErf.τ) (Cert.KernelErf.main (F := Bits))) ⟨m, fun _ => 0, g⟩ (fun r => (∀ c : Dev Cert.KernelErf.nD,
      r.2.mem ((c.tc : Thread Cert.KernelErf.nD Cert.KernelErf.τ).loc Cert.KernelErf.main_arg0) = m ((c.tc : Thread Cert.KernelErf.nD Cert.KernelErf.τ).loc Cert.KernelErf.main_arg0)
      ∧ r.2.mem ((c.tc : Thread Cert.KernelErf.nD Cert.KernelErf.τ).loc Cert.KernelErf.main_arg1) = m ((c.tc : Thread Cert.KernelErf.nD Cert.KernelErf.τ).loc Cert.KernelErf.main_arg1)
      ∧ r.2.mem ((c.tc : Thread Cert.KernelErf.nD Cert.KernelErf.τ).loc Cert.KernelErf.main_arg2) = m ((c.tc : Thread Cert.KernelErf.nD Cert.KernelErf.τ).loc Cert.KernelErf.main_arg2)
      ∧ r.2.mem ((c.tc : Thread Cert.KernelErf.nD Cert.KernelErf.τ).loc Cert.KernelErf.main_arg3) = m ((c.tc : Thread Cert.KernelErf.nD Cert.KernelErf.τ).loc Cert.KernelErf.main_arg3)
      ∧ r.2.mem ((c.tc : Thread Cert.KernelErf.nD Cert.KernelErf.τ).loc Cert.KernelErf.main_arg4) = m ((c.tc : Thread Cert.KernelErf.nD Cert.KernelErf.τ).loc Cert.KernelErf.main_arg4)
      ∧ r.2.mem ((c.tc : Thread Cert.KernelErf.nD Cert.KernelErf.τ).loc Cert.KernelErf.main_arg5) = m ((c.tc : Thread Cert.KernelErf.nD Cert.KernelErf.τ).loc Cert.KernelErf.main_arg5)
      ∧ r.2.mem ((c.tc : Thread Cert.KernelErf.nD Cert.KernelErf.τ).loc Cert.KernelErf.main_arg6) = m ((c.tc : Thread Cert.KernelErf.nD Cert.KernelErf.τ).loc Cert.KernelErf.main_arg6)
      ∧ r.2.mem ((c.tc : Thread Cert.KernelErf.nD Cert.KernelErf.τ).loc Cert.KernelErf.main_arg7) = m ((c.tc : Thread Cert.KernelErf.nD Cert.KernelErf.τ).loc Cert.KernelErf.main_arg7)
      ∧ r.2.mem ((c.tc : Thread Cert.KernelErf.nD Cert.KernelErf.τ).loc Cert.KernelErf.main_arg8) = m ((c.tc : Thread Cert.KernelErf.nD Cert.KernelErf.τ).loc Cert.KernelErf.main_arg8)
      ∧ r.2.mem ((c.tc : Thread Cert.KernelErf.nD Cert.KernelErf.τ).loc Cert.KernelErf.main_arg9) = m ((c.tc : Thread Cert.KernelErf.nD Cert.KernelErf.τ).loc Cert.KernelErf.main_arg9))
      ∧ r.2.sem = fun _ => 0)

def quiescent_KernelErfIdeal [hKernelErfIdeal : Cert.KernelErfIdeal.Facts] : Prop :=
  ∀ (m : (ℓ : Loc Cert.KernelErfIdeal.nD Cert.KernelErfIdeal.τ Cert.KernelErfIdeal.sig) → Buf (Elt Ideal) ℓ) (g : Dev Cert.KernelErfIdeal.nD → PrngReg), Pre_KernelErfIdeal m →
    θ_run (Cert.KernelErfIdeal.defs (F := Ideal)) (onTc (τ := Cert.KernelErfIdeal.τ) (Cert.KernelErfIdeal.main (F := Ideal))) ⟨m, fun _ => 0, g⟩ (fun r => (∀ c : Dev Cert.KernelErfIdeal.nD,
      r.2.mem ((c.tc : Thread Cert.KernelErfIdeal.nD Cert.KernelErfIdeal.τ).loc Cert.KernelErfIdeal.main_arg0) = m ((c.tc : Thread Cert.KernelErfIdeal.nD Cert.KernelErfIdeal.τ).loc Cert.KernelErfIdeal.main_arg0)
      ∧ r.2.mem ((c.tc : Thread Cert.KernelErfIdeal.nD Cert.KernelErfIdeal.τ).loc Cert.KernelErfIdeal.main_arg1) = m ((c.tc : Thread Cert.KernelErfIdeal.nD Cert.KernelErfIdeal.τ).loc Cert.KernelErfIdeal.main_arg1)
      ∧ r.2.mem ((c.tc : Thread Cert.KernelErfIdeal.nD Cert.KernelErfIdeal.τ).loc Cert.KernelErfIdeal.main_arg2) = m ((c.tc : Thread Cert.KernelErfIdeal.nD Cert.KernelErfIdeal.τ).loc Cert.KernelErfIdeal.main_arg2)
      ∧ r.2.mem ((c.tc : Thread Cert.KernelErfIdeal.nD Cert.KernelErfIdeal.τ).loc Cert.KernelErfIdeal.main_arg3) = m ((c.tc : Thread Cert.KernelErfIdeal.nD Cert.KernelErfIdeal.τ).loc Cert.KernelErfIdeal.main_arg3)
      ∧ r.2.mem ((c.tc : Thread Cert.KernelErfIdeal.nD Cert.KernelErfIdeal.τ).loc Cert.KernelErfIdeal.main_arg4) = m ((c.tc : Thread Cert.KernelErfIdeal.nD Cert.KernelErfIdeal.τ).loc Cert.KernelErfIdeal.main_arg4)
      ∧ r.2.mem ((c.tc : Thread Cert.KernelErfIdeal.nD Cert.KernelErfIdeal.τ).loc Cert.KernelErfIdeal.main_arg5) = m ((c.tc : Thread Cert.KernelErfIdeal.nD Cert.KernelErfIdeal.τ).loc Cert.KernelErfIdeal.main_arg5)
      ∧ r.2.mem ((c.tc : Thread Cert.KernelErfIdeal.nD Cert.KernelErfIdeal.τ).loc Cert.KernelErfIdeal.main_arg6) = m ((c.tc : Thread Cert.KernelErfIdeal.nD Cert.KernelErfIdeal.τ).loc Cert.KernelErfIdeal.main_arg6)
      ∧ r.2.mem ((c.tc : Thread Cert.KernelErfIdeal.nD Cert.KernelErfIdeal.τ).loc Cert.KernelErfIdeal.main_arg7) = m ((c.tc : Thread Cert.KernelErfIdeal.nD Cert.KernelErfIdeal.τ).loc Cert.KernelErfIdeal.main_arg7)
      ∧ r.2.mem ((c.tc : Thread Cert.KernelErfIdeal.nD Cert.KernelErfIdeal.τ).loc Cert.KernelErfIdeal.main_arg8) = m ((c.tc : Thread Cert.KernelErfIdeal.nD Cert.KernelErfIdeal.τ).loc Cert.KernelErfIdeal.main_arg8)
      ∧ r.2.mem ((c.tc : Thread Cert.KernelErfIdeal.nD Cert.KernelErfIdeal.τ).loc Cert.KernelErfIdeal.main_arg9) = m ((c.tc : Thread Cert.KernelErfIdeal.nD Cert.KernelErfIdeal.τ).loc Cert.KernelErfIdeal.main_arg9))
      ∧ r.2.sem = fun _ => 0)

def quiescent_KernelErfIdeal_pre_finite [hKernelErfIdeal : Cert.KernelErfIdeal.Facts] [hPre_finite : Cert.Pre_finite.Facts] : Prop :=
  ∀ (m : (ℓ : Loc Cert.KernelErfIdeal.nD Cert.KernelErfIdeal.τ Cert.KernelErfIdeal.sig) → Buf (Elt Ideal) ℓ) (g : Dev Cert.KernelErfIdeal.nD → PrngReg), Pre_KernelErfIdeal_finite m →
    θ_run (Cert.KernelErfIdeal.defs (F := Ideal)) (onTc (τ := Cert.KernelErfIdeal.τ) (Cert.KernelErfIdeal.main (F := Ideal))) ⟨m, fun _ => 0, g⟩ (fun r => (∀ c : Dev Cert.KernelErfIdeal.nD,
      r.2.mem ((c.tc : Thread Cert.KernelErfIdeal.nD Cert.KernelErfIdeal.τ).loc Cert.KernelErfIdeal.main_arg0) = m ((c.tc : Thread Cert.KernelErfIdeal.nD Cert.KernelErfIdeal.τ).loc Cert.KernelErfIdeal.main_arg0)
      ∧ r.2.mem ((c.tc : Thread Cert.KernelErfIdeal.nD Cert.KernelErfIdeal.τ).loc Cert.KernelErfIdeal.main_arg1) = m ((c.tc : Thread Cert.KernelErfIdeal.nD Cert.KernelErfIdeal.τ).loc Cert.KernelErfIdeal.main_arg1)
      ∧ r.2.mem ((c.tc : Thread Cert.KernelErfIdeal.nD Cert.KernelErfIdeal.τ).loc Cert.KernelErfIdeal.main_arg2) = m ((c.tc : Thread Cert.KernelErfIdeal.nD Cert.KernelErfIdeal.τ).loc Cert.KernelErfIdeal.main_arg2)
      ∧ r.2.mem ((c.tc : Thread Cert.KernelErfIdeal.nD Cert.KernelErfIdeal.τ).loc Cert.KernelErfIdeal.main_arg3) = m ((c.tc : Thread Cert.KernelErfIdeal.nD Cert.KernelErfIdeal.τ).loc Cert.KernelErfIdeal.main_arg3)
      ∧ r.2.mem ((c.tc : Thread Cert.KernelErfIdeal.nD Cert.KernelErfIdeal.τ).loc Cert.KernelErfIdeal.main_arg4) = m ((c.tc : Thread Cert.KernelErfIdeal.nD Cert.KernelErfIdeal.τ).loc Cert.KernelErfIdeal.main_arg4)
      ∧ r.2.mem ((c.tc : Thread Cert.KernelErfIdeal.nD Cert.KernelErfIdeal.τ).loc Cert.KernelErfIdeal.main_arg5) = m ((c.tc : Thread Cert.KernelErfIdeal.nD Cert.KernelErfIdeal.τ).loc Cert.KernelErfIdeal.main_arg5)
      ∧ r.2.mem ((c.tc : Thread Cert.KernelErfIdeal.nD Cert.KernelErfIdeal.τ).loc Cert.KernelErfIdeal.main_arg6) = m ((c.tc : Thread Cert.KernelErfIdeal.nD Cert.KernelErfIdeal.τ).loc Cert.KernelErfIdeal.main_arg6)
      ∧ r.2.mem ((c.tc : Thread Cert.KernelErfIdeal.nD Cert.KernelErfIdeal.τ).loc Cert.KernelErfIdeal.main_arg7) = m ((c.tc : Thread Cert.KernelErfIdeal.nD Cert.KernelErfIdeal.τ).loc Cert.KernelErfIdeal.main_arg7)
      ∧ r.2.mem ((c.tc : Thread Cert.KernelErfIdeal.nD Cert.KernelErfIdeal.τ).loc Cert.KernelErfIdeal.main_arg8) = m ((c.tc : Thread Cert.KernelErfIdeal.nD Cert.KernelErfIdeal.τ).loc Cert.KernelErfIdeal.main_arg8)
      ∧ r.2.mem ((c.tc : Thread Cert.KernelErfIdeal.nD Cert.KernelErfIdeal.τ).loc Cert.KernelErfIdeal.main_arg9) = m ((c.tc : Thread Cert.KernelErfIdeal.nD Cert.KernelErfIdeal.τ).loc Cert.KernelErfIdeal.main_arg9))
      ∧ r.2.sem = fun _ => 0)

def quiescent_ReferenceErfIdeal [hReferenceErfIdeal : Cert.ReferenceErfIdeal.Facts] : Prop :=
  ∀ (m : (ℓ : Loc Cert.ReferenceErfIdeal.nD Cert.ReferenceErfIdeal.τ Cert.ReferenceErfIdeal.sig) → Buf (Elt Ideal) ℓ) (g : Dev Cert.ReferenceErfIdeal.nD → PrngReg), Pre_ReferenceErfIdeal m →
    θ_run (Cert.ReferenceErfIdeal.defs (F := Ideal)) (onTc (τ := Cert.ReferenceErfIdeal.τ) (Cert.ReferenceErfIdeal.main (F := Ideal))) ⟨m, fun _ => 0, g⟩ (fun r => (∀ c : Dev Cert.ReferenceErfIdeal.nD,
      r.2.mem ((c.tc : Thread Cert.ReferenceErfIdeal.nD Cert.ReferenceErfIdeal.τ).loc Cert.ReferenceErfIdeal.main_arg0) = m ((c.tc : Thread Cert.ReferenceErfIdeal.nD Cert.ReferenceErfIdeal.τ).loc Cert.ReferenceErfIdeal.main_arg0)
      ∧ r.2.mem ((c.tc : Thread Cert.ReferenceErfIdeal.nD Cert.ReferenceErfIdeal.τ).loc Cert.ReferenceErfIdeal.main_arg1) = m ((c.tc : Thread Cert.ReferenceErfIdeal.nD Cert.ReferenceErfIdeal.τ).loc Cert.ReferenceErfIdeal.main_arg1)
      ∧ r.2.mem ((c.tc : Thread Cert.ReferenceErfIdeal.nD Cert.ReferenceErfIdeal.τ).loc Cert.ReferenceErfIdeal.main_arg2) = m ((c.tc : Thread Cert.ReferenceErfIdeal.nD Cert.ReferenceErfIdeal.τ).loc Cert.ReferenceErfIdeal.main_arg2)
      ∧ r.2.mem ((c.tc : Thread Cert.ReferenceErfIdeal.nD Cert.ReferenceErfIdeal.τ).loc Cert.ReferenceErfIdeal.main_arg3) = m ((c.tc : Thread Cert.ReferenceErfIdeal.nD Cert.ReferenceErfIdeal.τ).loc Cert.ReferenceErfIdeal.main_arg3)
      ∧ r.2.mem ((c.tc : Thread Cert.ReferenceErfIdeal.nD Cert.ReferenceErfIdeal.τ).loc Cert.ReferenceErfIdeal.main_arg4) = m ((c.tc : Thread Cert.ReferenceErfIdeal.nD Cert.ReferenceErfIdeal.τ).loc Cert.ReferenceErfIdeal.main_arg4)
      ∧ r.2.mem ((c.tc : Thread Cert.ReferenceErfIdeal.nD Cert.ReferenceErfIdeal.τ).loc Cert.ReferenceErfIdeal.main_arg5) = m ((c.tc : Thread Cert.ReferenceErfIdeal.nD Cert.ReferenceErfIdeal.τ).loc Cert.ReferenceErfIdeal.main_arg5)
      ∧ r.2.mem ((c.tc : Thread Cert.ReferenceErfIdeal.nD Cert.ReferenceErfIdeal.τ).loc Cert.ReferenceErfIdeal.main_arg6) = m ((c.tc : Thread Cert.ReferenceErfIdeal.nD Cert.ReferenceErfIdeal.τ).loc Cert.ReferenceErfIdeal.main_arg6)
      ∧ r.2.mem ((c.tc : Thread Cert.ReferenceErfIdeal.nD Cert.ReferenceErfIdeal.τ).loc Cert.ReferenceErfIdeal.main_arg7) = m ((c.tc : Thread Cert.ReferenceErfIdeal.nD Cert.ReferenceErfIdeal.τ).loc Cert.ReferenceErfIdeal.main_arg7)
      ∧ r.2.mem ((c.tc : Thread Cert.ReferenceErfIdeal.nD Cert.ReferenceErfIdeal.τ).loc Cert.ReferenceErfIdeal.main_arg8) = m ((c.tc : Thread Cert.ReferenceErfIdeal.nD Cert.ReferenceErfIdeal.τ).loc Cert.ReferenceErfIdeal.main_arg8)
      ∧ r.2.mem ((c.tc : Thread Cert.ReferenceErfIdeal.nD Cert.ReferenceErfIdeal.τ).loc Cert.ReferenceErfIdeal.main_arg9) = m ((c.tc : Thread Cert.ReferenceErfIdeal.nD Cert.ReferenceErfIdeal.τ).loc Cert.ReferenceErfIdeal.main_arg9))
      ∧ r.2.sem = fun _ => 0)

def quiescent_ReferenceErfIdeal_pre_finite [hReferenceErfIdeal : Cert.ReferenceErfIdeal.Facts] [hPre_finite : Cert.Pre_finite.Facts] : Prop :=
  ∀ (m : (ℓ : Loc Cert.ReferenceErfIdeal.nD Cert.ReferenceErfIdeal.τ Cert.ReferenceErfIdeal.sig) → Buf (Elt Ideal) ℓ) (g : Dev Cert.ReferenceErfIdeal.nD → PrngReg), Pre_ReferenceErfIdeal_finite m →
    θ_run (Cert.ReferenceErfIdeal.defs (F := Ideal)) (onTc (τ := Cert.ReferenceErfIdeal.τ) (Cert.ReferenceErfIdeal.main (F := Ideal))) ⟨m, fun _ => 0, g⟩ (fun r => (∀ c : Dev Cert.ReferenceErfIdeal.nD,
      r.2.mem ((c.tc : Thread Cert.ReferenceErfIdeal.nD Cert.ReferenceErfIdeal.τ).loc Cert.ReferenceErfIdeal.main_arg0) = m ((c.tc : Thread Cert.ReferenceErfIdeal.nD Cert.ReferenceErfIdeal.τ).loc Cert.ReferenceErfIdeal.main_arg0)
      ∧ r.2.mem ((c.tc : Thread Cert.ReferenceErfIdeal.nD Cert.ReferenceErfIdeal.τ).loc Cert.ReferenceErfIdeal.main_arg1) = m ((c.tc : Thread Cert.ReferenceErfIdeal.nD Cert.ReferenceErfIdeal.τ).loc Cert.ReferenceErfIdeal.main_arg1)
      ∧ r.2.mem ((c.tc : Thread Cert.ReferenceErfIdeal.nD Cert.ReferenceErfIdeal.τ).loc Cert.ReferenceErfIdeal.main_arg2) = m ((c.tc : Thread Cert.ReferenceErfIdeal.nD Cert.ReferenceErfIdeal.τ).loc Cert.ReferenceErfIdeal.main_arg2)
      ∧ r.2.mem ((c.tc : Thread Cert.ReferenceErfIdeal.nD Cert.ReferenceErfIdeal.τ).loc Cert.ReferenceErfIdeal.main_arg3) = m ((c.tc : Thread Cert.ReferenceErfIdeal.nD Cert.ReferenceErfIdeal.τ).loc Cert.ReferenceErfIdeal.main_arg3)
      ∧ r.2.mem ((c.tc : Thread Cert.ReferenceErfIdeal.nD Cert.ReferenceErfIdeal.τ).loc Cert.ReferenceErfIdeal.main_arg4) = m ((c.tc : Thread Cert.ReferenceErfIdeal.nD Cert.ReferenceErfIdeal.τ).loc Cert.ReferenceErfIdeal.main_arg4)
      ∧ r.2.mem ((c.tc : Thread Cert.ReferenceErfIdeal.nD Cert.ReferenceErfIdeal.τ).loc Cert.ReferenceErfIdeal.main_arg5) = m ((c.tc : Thread Cert.ReferenceErfIdeal.nD Cert.ReferenceErfIdeal.τ).loc Cert.ReferenceErfIdeal.main_arg5)
      ∧ r.2.mem ((c.tc : Thread Cert.ReferenceErfIdeal.nD Cert.ReferenceErfIdeal.τ).loc Cert.ReferenceErfIdeal.main_arg6) = m ((c.tc : Thread Cert.ReferenceErfIdeal.nD Cert.ReferenceErfIdeal.τ).loc Cert.ReferenceErfIdeal.main_arg6)
      ∧ r.2.mem ((c.tc : Thread Cert.ReferenceErfIdeal.nD Cert.ReferenceErfIdeal.τ).loc Cert.ReferenceErfIdeal.main_arg7) = m ((c.tc : Thread Cert.ReferenceErfIdeal.nD Cert.ReferenceErfIdeal.τ).loc Cert.ReferenceErfIdeal.main_arg7)
      ∧ r.2.mem ((c.tc : Thread Cert.ReferenceErfIdeal.nD Cert.ReferenceErfIdeal.τ).loc Cert.ReferenceErfIdeal.main_arg8) = m ((c.tc : Thread Cert.ReferenceErfIdeal.nD Cert.ReferenceErfIdeal.τ).loc Cert.ReferenceErfIdeal.main_arg8)
      ∧ r.2.mem ((c.tc : Thread Cert.ReferenceErfIdeal.nD Cert.ReferenceErfIdeal.τ).loc Cert.ReferenceErfIdeal.main_arg9) = m ((c.tc : Thread Cert.ReferenceErfIdeal.nD Cert.ReferenceErfIdeal.τ).loc Cert.ReferenceErfIdeal.main_arg9))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)) (v2 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_v1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v246) = v0 c
          ∧ r.2.mem ((c.tc : Thread Cert.ReferenceIdeal.nD Cert.ReferenceIdeal.τ).loc Cert.ReferenceIdeal.main_indices) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_KernelErf_KernelErfIdeal : Prop :=
  True

def algebraic_KernelErfIdeal_ReferenceErfIdeal_pre_finite [hKernelErfIdeal : Cert.KernelErfIdeal.Facts] [hReferenceErfIdeal : Cert.ReferenceErfIdeal.Facts] [hPre_finite : Cert.Pre_finite.Facts] : Prop :=
  ∀ (m : (ℓ : Loc Cert.KernelErfIdeal.nD Cert.KernelErfIdeal.τ Cert.KernelErfIdeal.sig) → Buf (Elt Ideal) ℓ) (g : Dev Cert.KernelErfIdeal.nD → PrngReg)
    (m' : (ℓ : Loc Cert.ReferenceErfIdeal.nD Cert.ReferenceErfIdeal.τ Cert.ReferenceErfIdeal.sig) → Buf (Elt Ideal) ℓ) (g' : Dev Cert.ReferenceErfIdeal.nD → PrngReg), Pre_KernelErfIdeal_finite m →
    (∀ c : Dev Cert.KernelErfIdeal.nD,
      m' ((c.tc : Thread Cert.ReferenceErfIdeal.nD Cert.ReferenceErfIdeal.τ).loc Cert.ReferenceErfIdeal.main_arg0) = m ((c.tc : Thread Cert.KernelErfIdeal.nD Cert.KernelErfIdeal.τ).loc Cert.KernelErfIdeal.main_arg0)
      ∧ m' ((c.tc : Thread Cert.ReferenceErfIdeal.nD Cert.ReferenceErfIdeal.τ).loc Cert.ReferenceErfIdeal.main_arg1) = m ((c.tc : Thread Cert.KernelErfIdeal.nD Cert.KernelErfIdeal.τ).loc Cert.KernelErfIdeal.main_arg1)
      ∧ m' ((c.tc : Thread Cert.ReferenceErfIdeal.nD Cert.ReferenceErfIdeal.τ).loc Cert.ReferenceErfIdeal.main_arg2) = m ((c.tc : Thread Cert.KernelErfIdeal.nD Cert.KernelErfIdeal.τ).loc Cert.KernelErfIdeal.main_arg2)
      ∧ m' ((c.tc : Thread Cert.ReferenceErfIdeal.nD Cert.ReferenceErfIdeal.τ).loc Cert.ReferenceErfIdeal.main_arg3) = m ((c.tc : Thread Cert.KernelErfIdeal.nD Cert.KernelErfIdeal.τ).loc Cert.KernelErfIdeal.main_arg3)
      ∧ m' ((c.tc : Thread Cert.ReferenceErfIdeal.nD Cert.ReferenceErfIdeal.τ).loc Cert.ReferenceErfIdeal.main_arg4) = m ((c.tc : Thread Cert.KernelErfIdeal.nD Cert.KernelErfIdeal.τ).loc Cert.KernelErfIdeal.main_arg4)
      ∧ m' ((c.tc : Thread Cert.ReferenceErfIdeal.nD Cert.ReferenceErfIdeal.τ).loc Cert.ReferenceErfIdeal.main_arg5) = m ((c.tc : Thread Cert.KernelErfIdeal.nD Cert.KernelErfIdeal.τ).loc Cert.KernelErfIdeal.main_arg5)
      ∧ m' ((c.tc : Thread Cert.ReferenceErfIdeal.nD Cert.ReferenceErfIdeal.τ).loc Cert.ReferenceErfIdeal.main_arg6) = m ((c.tc : Thread Cert.KernelErfIdeal.nD Cert.KernelErfIdeal.τ).loc Cert.KernelErfIdeal.main_arg6)
      ∧ m' ((c.tc : Thread Cert.ReferenceErfIdeal.nD Cert.ReferenceErfIdeal.τ).loc Cert.ReferenceErfIdeal.main_arg7) = m ((c.tc : Thread Cert.KernelErfIdeal.nD Cert.KernelErfIdeal.τ).loc Cert.KernelErfIdeal.main_arg7)
      ∧ m' ((c.tc : Thread Cert.ReferenceErfIdeal.nD Cert.ReferenceErfIdeal.τ).loc Cert.ReferenceErfIdeal.main_arg8) = m ((c.tc : Thread Cert.KernelErfIdeal.nD Cert.KernelErfIdeal.τ).loc Cert.KernelErfIdeal.main_arg8)
      ∧ m' ((c.tc : Thread Cert.ReferenceErfIdeal.nD Cert.ReferenceErfIdeal.τ).loc Cert.ReferenceErfIdeal.main_arg9) = m ((c.tc : Thread Cert.KernelErfIdeal.nD Cert.KernelErfIdeal.τ).loc Cert.KernelErfIdeal.main_arg9)) →
    ∃ (v0 : (c : Dev Cert.KernelErfIdeal.nD) → Buf (Elt Ideal) ((c.tc : Thread Cert.KernelErfIdeal.nD Cert.KernelErfIdeal.τ).loc Cert.KernelErfIdeal.main_v11_0)) (v1 : (c : Dev Cert.KernelErfIdeal.nD) → Buf (Elt Ideal) ((c.tc : Thread Cert.KernelErfIdeal.nD Cert.KernelErfIdeal.τ).loc Cert.KernelErfIdeal.main_v11_1)) (v2 : (c : Dev Cert.KernelErfIdeal.nD) → Buf (Elt Ideal) ((c.tc : Thread Cert.KernelErfIdeal.nD Cert.KernelErfIdeal.τ).loc Cert.KernelErfIdeal.main_v1)),
      θ_run (Cert.KernelErfIdeal.defs (F := Ideal)) (onTc (τ := Cert.KernelErfIdeal.τ) (Cert.KernelErfIdeal.main (F := Ideal))) ⟨m, fun _ => 0, g⟩ (fun r => ∀ c : Dev Cert.KernelErfIdeal.nD,
          r.2.mem ((c.tc : Thread Cert.KernelErfIdeal.nD Cert.KernelErfIdeal.τ).loc Cert.KernelErfIdeal.main_v11_0) = v0 c
          ∧ r.2.mem ((c.tc : Thread Cert.KernelErfIdeal.nD Cert.KernelErfIdeal.τ).loc Cert.KernelErfIdeal.main_v11_1) = v1 c
          ∧ r.2.mem ((c.tc : Thread Cert.KernelErfIdeal.nD Cert.KernelErfIdeal.τ).loc Cert.KernelErfIdeal.main_v1) = v2 c
          ∧ r.2.mem ((c.tc : Thread Cert.KernelErfIdeal.nD Cert.KernelErfIdeal.τ).loc Cert.KernelErfIdeal.main_arg0) = m ((c.tc : Thread Cert.KernelErfIdeal.nD Cert.KernelErfIdeal.τ).loc Cert.KernelErfIdeal.main_arg0)
          ∧ r.2.mem ((c.tc : Thread Cert.KernelErfIdeal.nD Cert.KernelErfIdeal.τ).loc Cert.KernelErfIdeal.main_arg1) = m ((c.tc : Thread Cert.KernelErfIdeal.nD Cert.KernelErfIdeal.τ).loc Cert.KernelErfIdeal.main_arg1)
          ∧ r.2.mem ((c.tc : Thread Cert.KernelErfIdeal.nD Cert.KernelErfIdeal.τ).loc Cert.KernelErfIdeal.main_arg2) = m ((c.tc : Thread Cert.KernelErfIdeal.nD Cert.KernelErfIdeal.τ).loc Cert.KernelErfIdeal.main_arg2)
          ∧ r.2.mem ((c.tc : Thread Cert.KernelErfIdeal.nD Cert.KernelErfIdeal.τ).loc Cert.KernelErfIdeal.main_arg3) = m ((c.tc : Thread Cert.KernelErfIdeal.nD Cert.KernelErfIdeal.τ).loc Cert.KernelErfIdeal.main_arg3)
          ∧ r.2.mem ((c.tc : Thread Cert.KernelErfIdeal.nD Cert.KernelErfIdeal.τ).loc Cert.KernelErfIdeal.main_arg4) = m ((c.tc : Thread Cert.KernelErfIdeal.nD Cert.KernelErfIdeal.τ).loc Cert.KernelErfIdeal.main_arg4)
          ∧ r.2.mem ((c.tc : Thread Cert.KernelErfIdeal.nD Cert.KernelErfIdeal.τ).loc Cert.KernelErfIdeal.main_arg5) = m ((c.tc : Thread Cert.KernelErfIdeal.nD Cert.KernelErfIdeal.τ).loc Cert.KernelErfIdeal.main_arg5)
          ∧ r.2.mem ((c.tc : Thread Cert.KernelErfIdeal.nD Cert.KernelErfIdeal.τ).loc Cert.KernelErfIdeal.main_arg6) = m ((c.tc : Thread Cert.KernelErfIdeal.nD Cert.KernelErfIdeal.τ).loc Cert.KernelErfIdeal.main_arg6)
          ∧ r.2.mem ((c.tc : Thread Cert.KernelErfIdeal.nD Cert.KernelErfIdeal.τ).loc Cert.KernelErfIdeal.main_arg7) = m ((c.tc : Thread Cert.KernelErfIdeal.nD Cert.KernelErfIdeal.τ).loc Cert.KernelErfIdeal.main_arg7)
          ∧ r.2.mem ((c.tc : Thread Cert.KernelErfIdeal.nD Cert.KernelErfIdeal.τ).loc Cert.KernelErfIdeal.main_arg8) = m ((c.tc : Thread Cert.KernelErfIdeal.nD Cert.KernelErfIdeal.τ).loc Cert.KernelErfIdeal.main_arg8)
          ∧ r.2.mem ((c.tc : Thread Cert.KernelErfIdeal.nD Cert.KernelErfIdeal.τ).loc Cert.KernelErfIdeal.main_arg9) = m ((c.tc : Thread Cert.KernelErfIdeal.nD Cert.KernelErfIdeal.τ).loc Cert.KernelErfIdeal.main_arg9))
      ∧ θ_run (Cert.ReferenceErfIdeal.defs (F := Ideal)) (onTc (τ := Cert.ReferenceErfIdeal.τ) (Cert.ReferenceErfIdeal.main (F := Ideal))) ⟨m', fun _ => 0, g'⟩ (fun r => ∀ c : Dev Cert.ReferenceErfIdeal.nD,
          r.2.mem ((c.tc : Thread Cert.ReferenceErfIdeal.nD Cert.ReferenceErfIdeal.τ).loc Cert.ReferenceErfIdeal.main_v54) = v0 c
          ∧ r.2.mem ((c.tc : Thread Cert.ReferenceErfIdeal.nD Cert.ReferenceErfIdeal.τ).loc Cert.ReferenceErfIdeal.main_indices) = v1 c
          ∧ r.2.mem ((c.tc : Thread Cert.ReferenceErfIdeal.nD Cert.ReferenceErfIdeal.τ).loc Cert.ReferenceErfIdeal.main_v3) = v2 c
          ∧ r.2.mem ((c.tc : Thread Cert.ReferenceErfIdeal.nD Cert.ReferenceErfIdeal.τ).loc Cert.ReferenceErfIdeal.main_arg0) = m' ((c.tc : Thread Cert.ReferenceErfIdeal.nD Cert.ReferenceErfIdeal.τ).loc Cert.ReferenceErfIdeal.main_arg0)
          ∧ r.2.mem ((c.tc : Thread Cert.ReferenceErfIdeal.nD Cert.ReferenceErfIdeal.τ).loc Cert.ReferenceErfIdeal.main_arg1) = m' ((c.tc : Thread Cert.ReferenceErfIdeal.nD Cert.ReferenceErfIdeal.τ).loc Cert.ReferenceErfIdeal.main_arg1)
          ∧ r.2.mem ((c.tc : Thread Cert.ReferenceErfIdeal.nD Cert.ReferenceErfIdeal.τ).loc Cert.ReferenceErfIdeal.main_arg2) = m' ((c.tc : Thread Cert.ReferenceErfIdeal.nD Cert.ReferenceErfIdeal.τ).loc Cert.ReferenceErfIdeal.main_arg2)
          ∧ r.2.mem ((c.tc : Thread Cert.ReferenceErfIdeal.nD Cert.ReferenceErfIdeal.τ).loc Cert.ReferenceErfIdeal.main_arg3) = m' ((c.tc : Thread Cert.ReferenceErfIdeal.nD Cert.ReferenceErfIdeal.τ).loc Cert.ReferenceErfIdeal.main_arg3)
          ∧ r.2.mem ((c.tc : Thread Cert.ReferenceErfIdeal.nD Cert.ReferenceErfIdeal.τ).loc Cert.ReferenceErfIdeal.main_arg4) = m' ((c.tc : Thread Cert.ReferenceErfIdeal.nD Cert.ReferenceErfIdeal.τ).loc Cert.ReferenceErfIdeal.main_arg4)
          ∧ r.2.mem ((c.tc : Thread Cert.ReferenceErfIdeal.nD Cert.ReferenceErfIdeal.τ).loc Cert.ReferenceErfIdeal.main_arg5) = m' ((c.tc : Thread Cert.ReferenceErfIdeal.nD Cert.ReferenceErfIdeal.τ).loc Cert.ReferenceErfIdeal.main_arg5)
          ∧ r.2.mem ((c.tc : Thread Cert.ReferenceErfIdeal.nD Cert.ReferenceErfIdeal.τ).loc Cert.ReferenceErfIdeal.main_arg6) = m' ((c.tc : Thread Cert.ReferenceErfIdeal.nD Cert.ReferenceErfIdeal.τ).loc Cert.ReferenceErfIdeal.main_arg6)
          ∧ r.2.mem ((c.tc : Thread Cert.ReferenceErfIdeal.nD Cert.ReferenceErfIdeal.τ).loc Cert.ReferenceErfIdeal.main_arg7) = m' ((c.tc : Thread Cert.ReferenceErfIdeal.nD Cert.ReferenceErfIdeal.τ).loc Cert.ReferenceErfIdeal.main_arg7)
          ∧ r.2.mem ((c.tc : Thread Cert.ReferenceErfIdeal.nD Cert.ReferenceErfIdeal.τ).loc Cert.ReferenceErfIdeal.main_arg8) = m' ((c.tc : Thread Cert.ReferenceErfIdeal.nD Cert.ReferenceErfIdeal.τ).loc Cert.ReferenceErfIdeal.main_arg8)
          ∧ r.2.mem ((c.tc : Thread Cert.ReferenceErfIdeal.nD Cert.ReferenceErfIdeal.τ).loc Cert.ReferenceErfIdeal.main_arg9) = m' ((c.tc : Thread Cert.ReferenceErfIdeal.nD Cert.ReferenceErfIdeal.τ).loc Cert.ReferenceErfIdeal.main_arg9))

def Claim : Prop :=
  ∃ (hKernel : Cert.Kernel.Facts) (hKernelIdeal : Cert.KernelIdeal.Facts) (hReferenceIdeal : Cert.ReferenceIdeal.Facts) (hKernelErf : Cert.KernelErf.Facts) (hKernelErfIdeal : Cert.KernelErfIdeal.Facts) (hReferenceErfIdeal : Cert.ReferenceErfIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_KernelErf (hKernelErf := hKernelErf)
    ∧ quiescent_KernelErfIdeal (hKernelErfIdeal := hKernelErfIdeal)
    ∧ quiescent_KernelErfIdeal_pre_finite (hKernelErfIdeal := hKernelErfIdeal) (hPre_finite := hPre_finite)
    ∧ quiescent_ReferenceErfIdeal (hReferenceErfIdeal := hReferenceErfIdeal)
    ∧ quiescent_ReferenceErfIdeal_pre_finite (hReferenceErfIdeal := hReferenceErfIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
    ∧ preserves_KernelErf_KernelErfIdeal
    ∧ algebraic_KernelErfIdeal_ReferenceErfIdeal_pre_finite (hKernelErfIdeal := hKernelErfIdeal) (hReferenceErfIdeal := hReferenceErfIdeal) (hPre_finite := hPre_finite)
-- ==== Pre_finite.lean ====
abbrev S16384x4096 : Shape := ⟨2, ![16384, 4096]⟩
abbrev S4096x2048 : Shape := ⟨2, ![4096, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S_ : Shape := ⟨0, ![]⟩

class Facts : Prop where
  bcast_S_S64 : S_.BroadcastsInDim S64 (![] : Fin 0 → Fin S64.rank)
  reducesTo_S64_S_d0 : S64.ReducesTo [0] S_
  h_S_ : 0 < S_.numel
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S2048x64 : S_.BroadcastsInDim S2048x64 (![] : Fin 0 → Fin S2048x64.rank)
  reducesTo_S2048x64_S_d0_1 : S2048x64.ReducesTo [0, 1] S_

variable [Facts]

def fn_part1 {F : FTy → Type} [FloatOps F] (main_arg6 : FVec F S2048x2048 .f32) (main_arg7 : FVec F S2048 .f32) (main_arg8 : FVec F S2048x64 .f32) (main_v12 : IVec S_ 1) (main_v15 : IVec S2048 1) (main_c_5 : IVec S_ 1) : IVec S_ 1 :=
  let main_v16 : IVec S_ 1 := (fun x v => Host.reduce IntOp.andi x v reducesTo_S2048_S_d0 h_S_) main_v15 main_c_5
  let main_v17 : IVec S_ 1 := andi main_v12 main_v16
  let main_v18 : FVec F S2048x2048 .f32 := Host.absf main_arg6
  let main_cst_6 : FVec F S_ .f32 := constant S_ .f32 0x7F800000#32
  let main_v19 : FVec F S2048x2048 .f32 := broadcastInDim S2048x2048 ![] bcast_S_S2048x2048 main_cst_6
  let main_v20 : IVec S2048x2048 1 := cmpf .olt main_v18 main_v19
  let main_c_7 : IVec S_ 1 := constantI S_ 1 1#1
  let main_v21 : IVec S_ 1 := (fun x v => Host.reduce IntOp.andi x v reducesTo_S2048x2048_S_d0_1 h_S_) main_v20 main_c_7
  let main_v22 : IVec S_ 1 := andi main_v17 main_v21
  let main_v23 : FVec F S2048 .f32 := Host.absf main_arg7
  let main_cst_8 : FVec F S_ .f32 := constant S_ .f32 0x7F800000#32
  let main_v24 : FVec F S2048 .f32 := broadcastInDim S2048 ![] bcast_S_S2048 main_cst_8
  let main_v25 : IVec S2048 1 := cmpf .olt main_v23 main_v24
  let main_c_9 : IVec S_ 1 := constantI S_ 1 1#1
  let main_v26 : IVec S_ 1 := (fun x v => Host.reduce IntOp.andi x v reducesTo_S2048_S_d0 h_S_) main_v25 main_c_9
  let main_v27 : IVec S_ 1 := andi main_v22 main_v26
  let main_v28 : FVec F S2048x64 .f32 := Host.absf main_arg8
  let main_cst_10 : FVec F S_ .f32 := constant S_ .f32 0x7F800000#32
  let main_v29 : FVec F S2048x64 .f32 := broadcastInDim S2048x64 ![] bcast_S_S2048x64 main_cst_10
  let main_v30 : IVec S2048x64 1 := cmpf .olt main_v28 main_v29
  let main_c_11 : IVec S_ 1 := constantI S_ 1 1#1
  let main_v31 : IVec S_ 1 := (fun x v => Host.reduce IntOp.andi x v reducesTo_S2048x64_S_d0_1 h_S_) main_v30 main_c_11
  let main_v32 : IVec S_ 1 := andi main_v27 main_v31
  main_v32

def fn {F : FTy → Type} [FloatOps F] (main_arg0 : FVec F S16384x4096 .f32) (main_arg1 : FVec F S4096x2048 .f32) (main_arg2 : FVec F S2048 .f32) (main_arg3 : FVec F S2048 .f32) (main_arg4 : FVec F S2048x2048 .f32) (main_arg5 : FVec F S2048 .f32) (main_arg6 : FVec F S2048x2048 .f32) (main_arg7 : FVec F S2048 .f32) (main_arg8 : FVec F S2048x64 .f32) (main_arg9 : FVec F S64 .f32) : IVec S_ 1 :=
  let main_cst : FVec F S_ .f32 := constant S_ .f32 0xFF800000#32
  let main_v0 : FVec F S64 .f32 := broadcastInDim S64 ![] bcast_S_S64 main_cst
  let main_v1 : IVec S64 1 := cmpf .ogt main_arg9 main_v0
  let main_c : IVec S_ 1 := constantI S_ 1 1#1
  let main_v2 : IVec S_ 1 := (fun x v => Host.reduce IntOp.andi x v reducesTo_S64_S_d0 h_S_) main_v1 main_c
  let main_v3 : FVec F S2048 .f32 := Host.absf main_arg3
  let main_cst_0 : FVec F S_ .f32 := constant S_ .f32 0x7F800000#32
  let main_v4 : FVec F S2048 .f32 := broadcastInDim S2048 ![] bcast_S_S2048 main_cst_0
  let main_v5 : IVec S2048 1 := cmpf .olt main_v3 main_v4
  let main_c_1 : IVec S_ 1 := constantI S_ 1 1#1
  let main_v6 : IVec S_ 1 := (fun x v => Host.reduce IntOp.andi x v reducesTo_S2048_S_d0 h_S_) main_v5 main_c_1
  let main_v7 : IVec S_ 1 := andi main_v2 main_v6
  let main_v8 : FVec F S2048x2048 .f32 := Host.absf main_arg4
  let main_cst_2 : FVec F S_ .f32 := constant S_ .f32 0x7F800000#32
  let main_v9 : FVec F S2048x2048 .f32 := broadcastInDim S2048x2048 ![] bcast_S_S2048x2048 main_cst_2
  let main_v10 : IVec S2048x2048 1 := cmpf .olt main_v8 main_v9
  let main_c_3 : IVec S_ 1 := constantI S_ 1 1#1
  let main_v11 : IVec S_ 1 := (fun x v => Host.reduce IntOp.andi x v reducesTo_S2048x2048_S_d0_1 h_S_) main_v10 main_c_3
  let main_v12 : IVec S_ 1 := andi main_v7 main_v11
  let main_v13 : FVec F S2048 .f32 := Host.absf main_arg5
  let main_cst_4 : FVec F S_ .f32 := constant S_ .f32 0x7F800000#32
  let main_v14 : FVec F S2048 .f32 := broadcastInDim S2048 ![] bcast_S_S2048 main_cst_4
  let main_v15 : IVec S2048 1 := cmpf .olt main_v13 main_v14
  let main_c_5 : IVec S_ 1 := constantI S_ 1 1#1
  fn_part1 (F := F) main_arg6 main_arg7 main_arg8 main_v12 main_v15 main_c_5
-- ==== Kernel.lean ====
abbrev S16384x4096 : Shape := ⟨2, ![16384, 4096]⟩
abbrev S4096x2048 : Shape := ⟨2, ![4096, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S1x2048 : Shape := ⟨2, ![1, 2048]⟩
abbrev S16384x2048 : Shape := ⟨2, ![16384, 2048]⟩
abbrev S256x4096 : Shape := ⟨2, ![256, 4096]⟩
abbrev S256x2048 : Shape := ⟨2, ![256, 2048]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x8 : Shape := ⟨2, ![16384, 8]⟩
abbrev S256x1 : Shape := ⟨2, ![256, 1]⟩
abbrev S256x8 : Shape := ⟨2, ![256, 8]⟩
abbrev S256x64 : Shape := ⟨2, ![256, 64]⟩
abbrev S256 : Shape := ⟨1, ![256]⟩
abbrev S256x32 : Shape := ⟨2, ![256, 32]⟩
abbrev S256x16 : Shape := ⟨2, ![256, 16]⟩
abbrev S256x4 : Shape := ⟨2, ![256, 4]⟩
abbrev S256x2 : Shape := ⟨2, ![256, 2]⟩

abbrev nBuf : Space → Nat
  | .hbm => 25
  | .vmem => 21
  | .smem => 0
  | _ => 0

abbrev bufTy : (tb : Table) → Fin (tcTables nBuf tb) → BufTy
  | .hbm, ⟨0, _⟩ => ⟨S16384x4096, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x64, .f32⟩
  | .hbm, ⟨9, _⟩ => ⟨S64, .f32⟩
  | .hbm, ⟨10, _⟩ => ⟨S1x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x64, .f32⟩
  | .hbm, ⟨23, _⟩ => ⟨S16384x8, .f32⟩
  | .hbm, ⟨24, _⟩ => ⟨S16384x8, .i32⟩
  | .local _ .vmem, ⟨0, _⟩ => ⟨S256x4096, .f32⟩
  | .local _ .vmem, ⟨1, _⟩ => ⟨S256x4096, .f32⟩
  | .local _ .vmem, ⟨2, _⟩ => ⟨S4096x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x1, .f32⟩
  | .local _ .vmem, ⟨9, _⟩ => ⟨S256x1, .f32⟩
  | .local _ .vmem, ⟨10, _⟩ => ⟨S1x2048, .f32⟩
  | .local _ .vmem, ⟨11, _⟩ => ⟨S2048x2048, .f32⟩
  | .local _ .vmem, ⟨12, _⟩ => ⟨S1x2048, .f32⟩
  | .local _ .vmem, ⟨13, _⟩ => ⟨S2048x2048, .f32⟩
  | .local _ .vmem, ⟨14, _⟩ => ⟨S1x2048, .f32⟩
  | .local _ .vmem, ⟨15, _⟩ => ⟨S2048x64, .f32⟩
  | .local _ .vmem, ⟨16, _⟩ => ⟨S1x64, .f32⟩
  | .local _ .vmem, ⟨17, _⟩ => ⟨S256x8, .f32⟩
  | .local _ .vmem, ⟨18, _⟩ => ⟨S256x8, .f32⟩
  | .local _ .vmem, ⟨19, _⟩ => ⟨S256x8, .i32⟩
  | .local _ .vmem, ⟨20, _⟩ => ⟨S256x8, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x8 .i32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceIdeal.lean ====
abbrev S16384x4096 : Shape := ⟨2, ![16384, 4096]⟩
abbrev S4096x2048 : Shape := ⟨2, ![4096, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S16384x64 : Shape := ⟨2, ![16384, 64]⟩
abbrev S1x64 : Shape := ⟨2, ![1, 64]⟩
abbrev S16384x8 : Shape := ⟨2, ![16384, 8]⟩
abbrev S16384x8x1 : Shape := ⟨3, ![16384, 8, 1]⟩
abbrev S1 : Shape := ⟨1, ![1]⟩
abbrev S1x1x1 : Shape := ⟨3, ![1, 1, 1]⟩

abbrev nBuf : Space → Nat
  | .hbm => 358
  | .vmem => 0
  | .smem => 0
  | _ => 0

abbrev hbmTy0_0 (i : Nat) : BufTy := match i % 128 with
  | 0 => ⟨S16384x4096, .f32⟩
  | 1 => ⟨S4096x2048, .f32⟩
  | 2 => ⟨S2048, .f32⟩
  | 3 => ⟨S2048, .f32⟩
  | 4 => ⟨S2048x2048, .f32⟩
  | 5 => ⟨S2048, .f32⟩
  | 6 => ⟨S2048x2048, .f32⟩
  | 7 => ⟨S2048, .f32⟩
  | 8 => ⟨S2048x64, .f32⟩
  | 9 => ⟨S64, .f32⟩
  | 10 => ⟨S16384x2048, .f32⟩
  | 11 => ⟨S1x2048, .f32⟩
  | 12 => ⟨S16384x2048, .f32⟩
  | 13 => ⟨S16384x2048, .f32⟩
  | 14 => ⟨S16384x2048, .f32⟩
  | 15 => ⟨S_, .f32⟩
  | 16 => ⟨S16384, .f32⟩
  | 17 => ⟨S16384x1, .f32⟩
  | 18 => ⟨S_, .f32⟩
  | 19 => ⟨S16384x1, .f32⟩
  | 20 => ⟨S16384x1, .f32⟩
  | 21 => ⟨S_, .f32⟩
  | 22 => ⟨S16384x1, .f32⟩
  | 23 => ⟨S16384x1, .f32⟩
  | 24 => ⟨S16384x1, .f32⟩
  | 25 => ⟨S16384x2048, .f32⟩
  | 26 => ⟨S16384x2048, .f32⟩
  | 27 => ⟨S1x2048, .f32⟩
  | 28 => ⟨S16384x2048, .f32⟩
  | 29 => ⟨S16384x2048, .f32⟩
  | 30 => ⟨S16384x2048, .f32⟩
  | 31 => ⟨S1x2048, .f32⟩
  | 32 => ⟨S16384x2048, .f32⟩
  | 33 => ⟨S16384x2048, .f32⟩
  | 34 => ⟨S_, .f32⟩
  | 35 => ⟨S16384x2048, .f32⟩
  | 36 => ⟨S16384x2048, .f32⟩
  | 37 => ⟨S16384x2048, .f32⟩
  | 38 => ⟨S_, .f32⟩
  | 39 => ⟨S16384x2048, .f32⟩
  | 40 => ⟨S16384x2048, .f32⟩
  | 41 => ⟨S16384x2048, .f32⟩
  | 42 => ⟨S_, .f32⟩
  | 43 => ⟨S16384x2048, .f32⟩
  | 44 => ⟨S16384x2048, .f32⟩
  | 45 => ⟨S_, .f32⟩
  | 46 => ⟨S16384x2048, .f32⟩
  | 47 => ⟨S16384x2048, .f32⟩
  | 48 => ⟨S16384x2048, .f32⟩
  | 49 => ⟨S_, .f32⟩
  | 50 => ⟨S16384x2048, .f32⟩
  | 51 => ⟨S16384x2048, .f32⟩
  | 52 => ⟨S16384x2048, .f32⟩
  | 53 => ⟨S_, .f32⟩
  | 54 => ⟨S16384x2048, .f32⟩
  | 55 => ⟨S16384x2048, .f32⟩
  | 56 => ⟨S16384x2048, .f32⟩
  | 57 => ⟨S_, .f32⟩
  | 58 => ⟨S16384x2048, .f32⟩
  | 59 => ⟨S16384x2048, .f32⟩
  | 60 => ⟨S16384x2048, .f32⟩
  | 61 => ⟨S_, .f32⟩
  | 62 => ⟨S16384x2048, .f32⟩
  | 63 => ⟨S16384x2048, .f32⟩
  | 64 => ⟨S16384x2048, .f32⟩
  | 65 => ⟨S_, .f32⟩
  | 66 => ⟨S16384x2048, .f32⟩
  | 67 => ⟨S16384x2048, .f32⟩
  | 68 => ⟨S16384x2048, .f32⟩
  | 69 => ⟨S_, .f32⟩
  | 70 => ⟨S16384x2048, .f32⟩
  | 71 => ⟨S16384x2048, .f32⟩
  | 72 => ⟨S16384x2048, .f32⟩
  | 73 => ⟨S_, .f32⟩
  | 74 => ⟨S16384x2048, .f32⟩
  | 75 => ⟨S16384x2048, .f32⟩
  | 76 => ⟨S16384x2048, .f32⟩
  | 77 => ⟨S16384x2048, .f32⟩
  | 78 => ⟨S16384x2048, .f32⟩
  | 79 => ⟨S16384x2048, .f32⟩
  | 80 => ⟨S16384x2048, .f32⟩
  | 81 => ⟨S16384x2048, .f32⟩
  | 82 => ⟨S_, .f32⟩
  | 83 => ⟨S16384x2048, .f32⟩
  | 84 => ⟨S16384x2048, .i1⟩
  | 85 => ⟨S_, .f32⟩
  | 86 => ⟨S16384x2048, .f32⟩
  | 87 => ⟨S16384x2048, .f32⟩
  | 88 => ⟨S_, .f32⟩
  | 89 => ⟨S16384x2048, .f32⟩
  | 90 => ⟨S16384x2048, .f32⟩
  | 91 => ⟨S16384x2048, .f32⟩
  | 92 => ⟨S_, .f32⟩
  | 93 => ⟨S16384x2048, .f32⟩
  | 94 => ⟨S16384x2048, .f32⟩
  | 95 => ⟨S16384x2048, .f32⟩
  | 96 => ⟨S_, .f32⟩
  | 97 => ⟨S16384x2048, .f32⟩
  | 98 => ⟨S16384x2048, .f32⟩
  | 99 => ⟨S16384x2048, .f32⟩
  | 100 => ⟨S_, .f32⟩
  | 101 => ⟨S16384x2048, .f32⟩
  | 102 => ⟨S16384x2048, .f32⟩
  | 103 => ⟨S16384x2048, .f32⟩
  | 104 => ⟨S_, .f32⟩
  | 105 => ⟨S16384x2048, .f32⟩
  | 106 => ⟨S16384x2048, .f32⟩
  | 107 => ⟨S16384x2048, .f32⟩
  | 108 => ⟨S_, .f32⟩
  | 109 => ⟨S16384x2048, .f32⟩
  | 110 => ⟨S16384x2048, .f32⟩
  | 111 => ⟨S16384x2048, .f32⟩
  | 112 => ⟨S_, .f32⟩
  | 113 => ⟨S16384x2048, .f32⟩
  | 114 => ⟨S16384x2048, .f32⟩
  | 115 => ⟨S16384x2048, .f32⟩
  | 116 => ⟨S_, .f32⟩
  | 117 => ⟨S16384x2048, .f32⟩
  | 118 => ⟨S16384x2048, .f32⟩
  | 119 => ⟨S_, .f32⟩
  | 120 => ⟨S16384x2048, .f32⟩
  | 121 => ⟨S16384x2048, .f32⟩
  | 122 => ⟨S_, .f32⟩
  | 123 => ⟨S16384x2048, .f32⟩
  | 124 => ⟨S16384x2048, .f32⟩
  | 125 => ⟨S16384x2048, .f32⟩
  | 126 => ⟨S_, .f32⟩
  | 127 => ⟨S16384x2048, .f32⟩
  | _ => ⟨S16384x4096, .f32⟩

abbrev hbmTy0_1 (i : Nat) : BufTy := match i % 128 with
  | 0 => ⟨S16384x2048, .f32⟩
  | 1 => ⟨S16384x2048, .f32⟩
  | 2 => ⟨S_, .f32⟩
  | 3 => ⟨S16384x2048, .f32⟩
  | 4 => ⟨S16384x2048, .f32⟩
  | 5 => ⟨S16384x2048, .f32⟩
  | 6 => ⟨S_, .f32⟩
  | 7 => ⟨S16384x2048, .f32⟩
  | 8 => ⟨S16384x2048, .f32⟩
  | 9 => ⟨S16384x2048, .f32⟩
  | 10 => ⟨S_, .f32⟩
  | 11 => ⟨S16384x2048, .f32⟩
  | 12 => ⟨S16384x2048, .f32⟩
  | 13 => ⟨S16384x2048, .f32⟩
  | 14 => ⟨S_, .f32⟩
  | 15 => ⟨S16384x2048, .f32⟩
  | 16 => ⟨S16384x2048, .f32⟩
  | 17 => ⟨S16384x2048, .f32⟩
  | 18 => ⟨S_, .f32⟩
  | 19 => ⟨S16384x2048, .f32⟩
  | 20 => ⟨S16384x2048, .f32⟩
  | 21 => ⟨S16384x2048, .f32⟩
  | 22 => ⟨S16384x2048, .f32⟩
  | 23 => ⟨S16384x2048, .f32⟩
  | 24 => ⟨S16384x2048, .f32⟩
  | 25 => ⟨S_, .f32⟩
  | 26 => ⟨S16384x2048, .f32⟩
  | 27 => ⟨S16384x2048, .i1⟩
  | 28 => ⟨S_, .f32⟩
  | 29 => ⟨S_, .f32⟩
  | 30 => ⟨S16384x2048, .f32⟩
  | 31 => ⟨S16384x2048, .f32⟩
  | 32 => ⟨S_, .f32⟩
  | 33 => ⟨S16384x2048, .f32⟩
  | 34 => ⟨S16384x2048, .i1⟩
  | 35 => ⟨S_, .f32⟩
  | 36 => ⟨S16384x2048, .f32⟩
  | 37 => ⟨S16384x2048, .f32⟩
  | 38 => ⟨S16384x2048, .f32⟩
  | 39 => ⟨S16384x2048, .f32⟩
  | 40 => ⟨S_, .f32⟩
  | 41 => ⟨S16384x2048, .f32⟩
  | 42 => ⟨S16384x2048, .i1⟩
  | 43 => ⟨S16384x2048, .f32⟩
  | 44 => ⟨S16384x2048, .f32⟩
  | 45 => ⟨S16384x2048, .f32⟩
  | 46 => ⟨S1x2048, .f32⟩
  | 47 => ⟨S16384x2048, .f32⟩
  | 48 => ⟨S16384x2048, .f32⟩
  | 49 => ⟨S_, .f32⟩
  | 50 => ⟨S16384x2048, .f32⟩
  | 51 => ⟨S16384x2048, .f32⟩
  | 52 => ⟨S16384x2048, .f32⟩
  | 53 => ⟨S_, .f32⟩
  | 54 => ⟨S16384x2048, .f32⟩
  | 55 => ⟨S16384x2048, .f32⟩
  | 56 => ⟨S16384x2048, .f32⟩
  | 57 => ⟨S_, .f32⟩
  | 58 => ⟨S16384x2048, .f32⟩
  | 59 => ⟨S16384x2048, .f32⟩
  | 60 => ⟨S_, .f32⟩
  | 61 => ⟨S16384x2048, .f32⟩
  | 62 => ⟨S16384x2048, .f32⟩
  | 63 => ⟨S16384x2048, .f32⟩
  | 64 => ⟨S_, .f32⟩
  | 65 => ⟨S16384x2048, .f32⟩
  | 66 => ⟨S16384x2048, .f32⟩
  | 67 => ⟨S16384x2048, .f32⟩
  | 68 => ⟨S_, .f32⟩
  | 69 => ⟨S16384x2048, .f32⟩
  | 70 => ⟨S16384x2048, .f32⟩
  | 71 => ⟨S16384x2048, .f32⟩
  | 72 => ⟨S_, .f32⟩
  | 73 => ⟨S16384x2048, .f32⟩
  | 74 => ⟨S16384x2048, .f32⟩
  | 75 => ⟨S16384x2048, .f32⟩
  | 76 => ⟨S_, .f32⟩
  | 77 => ⟨S16384x2048, .f32⟩
  | 78 => ⟨S16384x2048, .f32⟩
  | 79 => ⟨S16384x2048, .f32⟩
  | 80 => ⟨S_, .f32⟩
  | 81 => ⟨S16384x2048, .f32⟩
  | 82 => ⟨S16384x2048, .f32⟩
  | 83 => ⟨S16384x2048, .f32⟩
  | 84 => ⟨S_, .f32⟩
  | 85 => ⟨S16384x2048, .f32⟩
  | 86 => ⟨S16384x2048, .f32⟩
  | 87 => ⟨S16384x2048, .f32⟩
  | 88 => ⟨S_, .f32⟩
  | 89 => ⟨S16384x2048, .f32⟩
  | 90 => ⟨S16384x2048, .f32⟩
  | 91 => ⟨S16384x2048, .f32⟩
  | 92 => ⟨S16384x2048, .f32⟩
  | 93 => ⟨S16384x2048, .f32⟩
  | 94 => ⟨S16384x2048, .f32⟩
  | 95 => ⟨S16384x2048, .f32⟩
  | 96 => ⟨S16384x2048, .f32⟩
  | 97 => ⟨S_, .f32⟩
  | 98 => ⟨S16384x2048, .f32⟩
  | 99 => ⟨S16384x2048, .i1⟩
  | 100 => ⟨S_, .f32⟩
  | 101 => ⟨S16384x2048, .f32⟩
  | 102 => ⟨S16384x2048, .f32⟩
  | 103 => ⟨S_, .f32⟩
  | 104 => ⟨S16384x2048, .f32⟩
  | 105 => ⟨S16384x2048, .f32⟩
  | 106 => ⟨S16384x2048, .f32⟩
  | 107 => ⟨S_, .f32⟩
  | 108 => ⟨S16384x2048, .f32⟩
  | 109 => ⟨S16384x2048, .f32⟩
  | 110 => ⟨S16384x2048, .f32⟩
  | 111 => ⟨S_, .f32⟩
  | 112 => ⟨S16384x2048, .f32⟩
  | 113 => ⟨S16384x2048, .f32⟩
  | 114 => ⟨S16384x2048, .f32⟩
  | 115 => ⟨S_, .f32⟩
  | 116 => ⟨S16384x2048, .f32⟩
  | 117 => ⟨S16384x2048, .f32⟩
  | 118 => ⟨S16384x2048, .f32⟩
  | 119 => ⟨S_, .f32⟩
  | 120 => ⟨S16384x2048, .f32⟩
  | 121 => ⟨S16384x2048, .f32⟩
  | 122 => ⟨S16384x2048, .f32⟩
  | 123 => ⟨S_, .f32⟩
  | 124 => ⟨S16384x2048, .f32⟩
  | 125 => ⟨S16384x2048, .f32⟩
  | 126 => ⟨S16384x2048, .f32⟩
  | 127 => ⟨S_, .f32⟩
  | _ => ⟨S16384x4096, .f32⟩

abbrev hbmTy0_2 (i : Nat) : BufTy := match i % 128 with
  | 0 => ⟨S16384x2048, .f32⟩
  | 1 => ⟨S16384x2048, .f32⟩
  | 2 => ⟨S16384x2048, .f32⟩
  | 3 => ⟨S_, .f32⟩
  | 4 => ⟨S16384x2048, .f32⟩
  | 5 => ⟨S16384x2048, .f32⟩
  | 6 => ⟨S_, .f32⟩
  | 7 => ⟨S16384x2048, .f32⟩
  | 8 => ⟨S16384x2048, .f32⟩
  | 9 => ⟨S_, .f32⟩
  | 10 => ⟨S16384x2048, .f32⟩
  | 11 => ⟨S16384x2048, .f32⟩
  | 12 => ⟨S16384x2048, .f32⟩
  | 13 => ⟨S_, .f32⟩
  | 14 => ⟨S16384x2048, .f32⟩
  | 15 => ⟨S16384x2048, .f32⟩
  | 16 => ⟨S16384x2048, .f32⟩
  | 17 => ⟨S_, .f32⟩
  | 18 => ⟨S16384x2048, .f32⟩
  | 19 => ⟨S16384x2048, .f32⟩
  | 20 => ⟨S16384x2048, .f32⟩
  | 21 => ⟨S_, .f32⟩
  | 22 => ⟨S16384x2048, .f32⟩
  | 23 => ⟨S16384x2048, .f32⟩
  | 24 => ⟨S16384x2048, .f32⟩
  | 25 => ⟨S_, .f32⟩
  | 26 => ⟨S16384x2048, .f32⟩
  | 27 => ⟨S16384x2048, .f32⟩
  | 28 => ⟨S16384x2048, .f32⟩
  | 29 => ⟨S_, .f32⟩
  | 30 => ⟨S16384x2048, .f32⟩
  | 31 => ⟨S16384x2048, .f32⟩
  | 32 => ⟨S16384x2048, .f32⟩
  | 33 => ⟨S_, .f32⟩
  | 34 => ⟨S16384x2048, .f32⟩
  | 35 => ⟨S16384x2048, .f32⟩
  | 36 => ⟨S16384x2048, .f32⟩
  | 37 => ⟨S16384x2048, .f32⟩
  | 38 => ⟨S16384x2048, .f32⟩
  | 39 => ⟨S16384x2048, .f32⟩
  | 40 => ⟨S_, .f32⟩
  | 41 => ⟨S16384x2048, .f32⟩
  | 42 => ⟨S16384x2048, .i1⟩
  | 43 => ⟨S_, .f32⟩
  | 44 => ⟨S_, .f32⟩
  | 45 => ⟨S16384x2048, .f32⟩
  | 46 => ⟨S16384x2048, .f32⟩
  | 47 => ⟨S_, .f32⟩
  | 48 => ⟨S16384x2048, .f32⟩
  | 49 => ⟨S16384x2048, .i1⟩
  | 50 => ⟨S_, .f32⟩
  | 51 => ⟨S16384x2048, .f32⟩
  | 52 => ⟨S16384x2048, .f32⟩
  | 53 => ⟨S16384x2048, .f32⟩
  | 54 => ⟨S16384x2048, .f32⟩
  | 55 => ⟨S_, .f32⟩
  | 56 => ⟨S16384x2048, .f32⟩
  | 57 => ⟨S16384x2048, .i1⟩
  | 58 => ⟨S16384x2048, .f32⟩
  | 59 => ⟨S16384x2048, .f32⟩
  | 60 => ⟨S16384x64, .f32⟩
  | 61 => ⟨S_, .f32⟩
  | 62 => ⟨S16384, .f32⟩
  | 63 => ⟨S_, .f32⟩
  | 64 => ⟨S16384, .f32⟩
  | 65 => ⟨S16384, .f32⟩
  | 66 => ⟨S16384x1, .f32⟩
  | 67 => ⟨S16384x64, .f32⟩
  | 68 => ⟨S16384x64, .f32⟩
  | 69 => ⟨S16384x64, .f32⟩
  | 70 => ⟨S_, .f32⟩
  | 71 => ⟨S16384, .f32⟩
  | 72 => ⟨S16384x1, .f32⟩
  | 73 => ⟨S16384x64, .f32⟩
  | 74 => ⟨S16384x64, .f32⟩
  | 75 => ⟨S1x64, .f32⟩
  | 76 => ⟨S16384x64, .f32⟩
  | 77 => ⟨S16384x64, .f32⟩
  | 78 => ⟨S16384x8, .f32⟩
  | 79 => ⟨S16384x8, .i32⟩
  | 80 => ⟨S_, .i32⟩
  | 81 => ⟨S16384x8, .i32⟩
  | 82 => ⟨S16384x8, .i1⟩
  | 83 => ⟨S_, .i32⟩
  | 84 => ⟨S16384x8, .i32⟩
  | 85 => ⟨S16384x8, .i32⟩
  | 86 => ⟨S16384x8, .i32⟩
  | 87 => ⟨S16384x8x1, .i32⟩
  | 88 => ⟨S1, .i32⟩
  | 89 => ⟨S_, .i32⟩
  | 90 => ⟨S16384x8x1, .i32⟩
  | 91 => ⟨S16384x8x1, .i1⟩
  | 92 => ⟨S1x1x1, .i32⟩
  | 93 => ⟨S16384x8x1, .i32⟩
  | 94 => ⟨S16384x8x1, .i1⟩
  | 95 => ⟨S16384x8x1, .i1⟩
  | 96 => ⟨S_, .i1⟩
  | 97 => ⟨S16384x8, .i1⟩
  | 98 => ⟨S16384x8, .f32⟩
  | 99 => ⟨S_, .f32⟩
  | 100 => ⟨S16384x8, .f32⟩
  | 101 => ⟨S16384x8, .f32⟩
  | _ => ⟨S16384x4096, .f32⟩

abbrev hbmTy (i : Nat) : BufTy := match i / 128 with
  | 0 => hbmTy0_0 i
  | 1 => hbmTy0_1 i
  | 2 => hbmTy0_2 i
  | _ => ⟨S16384x4096, .f32⟩

abbrev bufTy : (tb : Table) → Fin (tcTables nBuf tb) → BufTy
  | .hbm, ⟨i, _⟩ => hbmTy i
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_4 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_cst_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_9 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_10 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_11 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_12 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_13 : Ref sig .tc := ⟨.hbm, 82, rfl⟩
abbrev main_v58 : Ref sig .tc := ⟨.hbm, 83, rfl⟩
abbrev main_v59 : Ref sig .tc := ⟨.hbm, 84, rfl⟩
abbrev main_cst_14 : Ref sig .tc := ⟨.hbm, 85, rfl⟩
abbrev main_v60 : Ref sig .tc := ⟨.hbm, 86, rfl⟩
abbrev main_v61 : Ref sig .tc := ⟨.hbm, 87, rfl⟩
abbrev main_cst_15 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_cst_16 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_cst_17 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_18 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_19 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_cst_20 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_21 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_22 : Ref sig .tc := ⟨.hbm, 116, rfl⟩
abbrev main_v83 : Ref sig .tc := ⟨.hbm, 117, rfl⟩
abbrev main_v84 : Ref sig .tc := ⟨.hbm, 118, rfl⟩
abbrev main_cst_23 : Ref sig .tc := ⟨.hbm, 119, rfl⟩
abbrev main_v85 : Ref sig .tc := ⟨.hbm, 120, rfl⟩
abbrev main_v86 : Ref sig .tc := ⟨.hbm, 121, rfl⟩
abbrev main_cst_24 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_cst_25 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_26 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_cst_27 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_cst_28 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_cst_29 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_cst_30 : Ref sig .tc := ⟨.hbm, 146, rfl⟩
abbrev main_v105 : Ref sig .tc := ⟨.hbm, 147, rfl⟩
abbrev main_v106 : Ref sig .tc := ⟨.hbm, 148, rfl⟩
abbrev main_v107 : Ref sig .tc := ⟨.hbm, 149, rfl⟩
abbrev main_v108 : Ref sig .tc := ⟨.hbm, 150, rfl⟩
abbrev main_v109 : Ref sig .tc := ⟨.hbm, 151, rfl⟩
abbrev main_v110 : Ref sig .tc := ⟨.hbm, 152, rfl⟩
abbrev main_cst_31 : Ref sig .tc := ⟨.hbm, 153, rfl⟩
abbrev main_v111 : Ref sig .tc := ⟨.hbm, 154, rfl⟩
abbrev main_v112 : Ref sig .tc := ⟨.hbm, 155, rfl⟩
abbrev main_cst_32 : Ref sig .tc := ⟨.hbm, 156, rfl⟩
abbrev main_call1_v0 : Ref sig .tc := ⟨.hbm, 157, rfl⟩
abbrev main_call1_v1 : Ref sig .tc := ⟨.hbm, 158, rfl⟩
abbrev main_v113 : Ref sig .tc := ⟨.hbm, 159, rfl⟩
abbrev main_cst_33 : Ref sig .tc := ⟨.hbm, 160, rfl⟩
abbrev main_v114 : Ref sig .tc := ⟨.hbm, 161, rfl⟩
abbrev main_v115 : Ref sig .tc := ⟨.hbm, 162, rfl⟩
abbrev main_cst_34 : Ref sig .tc := ⟨.hbm, 163, rfl⟩
abbrev main_v116 : Ref sig .tc := ⟨.hbm, 164, rfl⟩
abbrev main_v117 : Ref sig .tc := ⟨.hbm, 165, rfl⟩
abbrev main_v118 : Ref sig .tc := ⟨.hbm, 166, rfl⟩
abbrev main_v119 : Ref sig .tc := ⟨.hbm, 167, rfl⟩
abbrev main_cst_35 : Ref sig .tc := ⟨.hbm, 168, rfl⟩
abbrev main_v120 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_cst_36 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_37 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_cst_38 : Ref sig .tc := ⟨.hbm, 185, rfl⟩
abbrev main_v134 : Ref sig .tc := ⟨.hbm, 186, rfl⟩
abbrev main_v135 : Ref sig .tc := ⟨.hbm, 187, rfl⟩
abbrev main_cst_39 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_cst_40 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_cst_41 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_cst_42 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_cst_43 : Ref sig .tc := ⟨.hbm, 204, rfl⟩
abbrev main_v148 : Ref sig .tc := ⟨.hbm, 205, rfl⟩
abbrev main_v149 : Ref sig .tc := ⟨.hbm, 206, rfl⟩
abbrev main_v150 : Ref sig .tc := ⟨.hbm, 207, rfl⟩
abbrev main_cst_44 : Ref sig .tc := ⟨.hbm, 208, rfl⟩
abbrev main_v151 : Ref sig .tc := ⟨.hbm, 209, rfl⟩
abbrev main_v152 : Ref sig .tc := ⟨.hbm, 210, rfl⟩
abbrev main_v153 : Ref sig .tc := ⟨.hbm, 211, rfl⟩
abbrev main_cst_45 : Ref sig .tc := ⟨.hbm, 212, rfl⟩
abbrev main_v154 : Ref sig .tc := ⟨.hbm, 213, rfl⟩
abbrev main_v155 : Ref sig .tc := ⟨.hbm, 214, rfl⟩
abbrev main_v156 : Ref sig .tc := ⟨.hbm, 215, rfl⟩
abbrev main_cst_46 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_47 : Ref sig .tc := ⟨.hbm, 225, rfl⟩
abbrev main_v165 : Ref sig .tc := ⟨.hbm, 226, rfl⟩
abbrev main_v166 : Ref sig .tc := ⟨.hbm, 227, rfl⟩
abbrev main_cst_48 : Ref sig .tc := ⟨.hbm, 228, rfl⟩
abbrev main_v167 : Ref sig .tc := ⟨.hbm, 229, rfl⟩
abbrev main_v168 : Ref sig .tc := ⟨.hbm, 230, rfl⟩
abbrev main_cst_49 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_cst_50 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_cst_51 : Ref sig .tc := ⟨.hbm, 239, rfl⟩
abbrev main_v175 : Ref sig .tc := ⟨.hbm, 240, rfl⟩
abbrev main_v176 : Ref sig .tc := ⟨.hbm, 241, rfl⟩
abbrev main_v177 : Ref sig .tc := ⟨.hbm, 242, rfl⟩
abbrev main_cst_52 : Ref sig .tc := ⟨.hbm, 243, rfl⟩
abbrev main_v178 : Ref sig .tc := ⟨.hbm, 244, rfl⟩
abbrev main_v179 : Ref sig .tc := ⟨.hbm, 245, rfl⟩
abbrev main_v180 : Ref sig .tc := ⟨.hbm, 246, rfl⟩
abbrev main_cst_53 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_cst_54 : Ref sig .tc := ⟨.hbm, 251, rfl⟩
abbrev main_v184 : Ref sig .tc := ⟨.hbm, 252, rfl⟩
abbrev main_v185 : Ref sig .tc := ⟨.hbm, 253, rfl⟩
abbrev main_v186 : Ref sig .tc := ⟨.hbm, 254, rfl⟩
abbrev main_cst_55 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_cst_56 : Ref sig .tc := ⟨.hbm, 259, rfl⟩
abbrev main_v190 : Ref sig .tc := ⟨.hbm, 260, rfl⟩
abbrev main_v191 : Ref sig .tc := ⟨.hbm, 261, rfl⟩
abbrev main_cst_57 : Ref sig .tc := ⟨.hbm, 262, rfl⟩
abbrev main_v192 : Ref sig .tc := ⟨.hbm, 263, rfl⟩
abbrev main_v193 : Ref sig .tc := ⟨.hbm, 264, rfl⟩
abbrev main_cst_58 : Ref sig .tc := ⟨.hbm, 265, rfl⟩
abbrev main_v194 : Ref sig .tc := ⟨.hbm, 266, rfl⟩
abbrev main_v195 : Ref sig .tc := ⟨.hbm, 267, rfl⟩
abbrev main_v196 : Ref sig .tc := ⟨.hbm, 268, rfl⟩
abbrev main_cst_59 : Ref sig .tc := ⟨.hbm, 269, rfl⟩
abbrev main_v197 : Ref sig .tc := ⟨.hbm, 270, rfl⟩
abbrev main_v198 : Ref sig .tc := ⟨.hbm, 271, rfl⟩
abbrev main_v199 : Ref sig .tc := ⟨.hbm, 272, rfl⟩
abbrev main_cst_60 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_cst_61 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_cst_62 : Ref sig .tc := ⟨.hbm, 281, rfl⟩
abbrev main_v206 : Ref sig .tc := ⟨.hbm, 282, rfl⟩
abbrev main_v207 : Ref sig .tc := ⟨.hbm, 283, rfl⟩
abbrev main_v208 : Ref sig .tc := ⟨.hbm, 284, rfl⟩
abbrev main_cst_63 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_cst_64 : Ref sig .tc := ⟨.hbm, 289, rfl⟩
abbrev main_v212 : Ref sig .tc := ⟨.hbm, 290, rfl⟩
abbrev main_v213 : Ref sig .tc := ⟨.hbm, 291, rfl⟩
abbrev main_v214 : Ref sig .tc := ⟨.hbm, 292, rfl⟩
abbrev main_v215 : Ref sig .tc := ⟨.hbm, 293, rfl⟩
abbrev main_v216 : Ref sig .tc := ⟨.hbm, 294, rfl⟩
abbrev main_v217 : Ref sig .tc := ⟨.hbm, 295, rfl⟩
abbrev main_cst_65 : Ref sig .tc := ⟨.hbm, 296, rfl⟩
abbrev main_v218 : Ref sig .tc := ⟨.hbm, 297, rfl⟩
abbrev main_v219 : Ref sig .tc := ⟨.hbm, 298, rfl⟩
abbrev main_cst_66 : Ref sig .tc := ⟨.hbm, 299, rfl⟩
abbrev main_call5_v0 : Ref sig .tc := ⟨.hbm, 300, rfl⟩
abbrev main_call5_v1 : Ref sig .tc := ⟨.hbm, 301, rfl⟩
abbrev main_v220 : Ref sig .tc := ⟨.hbm, 302, rfl⟩
abbrev main_cst_67 : Ref sig .tc := ⟨.hbm, 303, rfl⟩
abbrev main_v221 : Ref sig .tc := ⟨.hbm, 304, rfl⟩
abbrev main_v222 : Ref sig .tc := ⟨.hbm, 305, rfl⟩
abbrev main_cst_68 : Ref sig .tc := ⟨.hbm, 306, rfl⟩
abbrev main_v223 : Ref sig .tc := ⟨.hbm, 307, rfl⟩
abbrev main_v224 : Ref sig .tc := ⟨.hbm, 308, rfl⟩
abbrev main_v225 : Ref sig .tc := ⟨.hbm, 309, rfl⟩
abbrev main_v226 : Ref sig .tc := ⟨.hbm, 310, rfl⟩
abbrev main_cst_69 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_v230 : Ref sig .tc := ⟨.hbm, 315, rfl⟩
abbrev main_v231 : Ref sig .tc := ⟨.hbm, 316, rfl⟩
abbrev main_cst_70 : Ref sig .tc := ⟨.hbm, 317, rfl⟩
abbrev main_v232 : Ref sig .tc := ⟨.hbm, 318, rfl⟩
abbrev main_cst_71 : Ref sig .tc := ⟨.hbm, 319, rfl⟩
abbrev main_v233 : Ref sig .tc := ⟨.hbm, 320, rfl⟩
abbrev main_v234 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_v238 : Ref sig .tc := ⟨.hbm, 325, rfl⟩
abbrev main_cst_72 : Ref sig .tc := ⟨.hbm, 326, rfl⟩
abbrev main_v239 : Ref sig .tc := ⟨.hbm, 327, rfl⟩
abbrev main_v240 : Ref sig .tc := ⟨.hbm, 328, rfl⟩
abbrev main_v241 : Ref sig .tc := ⟨.hbm, 329, rfl⟩
abbrev main_v242 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩
abbrev main_values : Ref sig .tc := ⟨.hbm, 334, rfl⟩
abbrev main_indices : Ref sig .tc := ⟨.hbm, 335, rfl⟩
abbrev main_call8_c : Ref sig .tc := ⟨.hbm, 336, rfl⟩
abbrev main_call8_v0 : Ref sig .tc := ⟨.hbm, 337, rfl⟩
abbrev main_call8_v1 : Ref sig .tc := ⟨.hbm, 338, rfl⟩
abbrev main_call8_c_0 : Ref sig .tc := ⟨.hbm, 339, rfl⟩
abbrev main_call8_v2 : Ref sig .tc := ⟨.hbm, 340, rfl⟩
abbrev main_call8_v3 : Ref sig .tc := ⟨.hbm, 341, rfl⟩
abbrev main_call8_v4 : Ref sig .tc := ⟨.hbm, 342, rfl⟩
abbrev main_call8_v5 : Ref sig .tc := ⟨.hbm, 343, rfl⟩
abbrev main_call8_c_1 : Ref sig .tc := ⟨.hbm, 344, rfl⟩
abbrev main_call8_c_2 : Ref sig .tc := ⟨.hbm, 345, rfl⟩
abbrev main_call8_v6 : Ref sig .tc := ⟨.hbm, 346, rfl⟩
abbrev main_call8_v7 : Ref sig .tc := ⟨.hbm, 347, rfl⟩
abbrev main_call8_v8 : Ref sig .tc := ⟨.hbm, 348, rfl⟩
abbrev main_call8_v9 : Ref sig .tc := ⟨.hbm, 349, rfl⟩
abbrev main_call8_v10 : Ref sig .tc := ⟨.hbm, 350, rfl⟩
abbrev main_call8_v11 : Ref sig .tc := ⟨.hbm, 351, rfl⟩
abbrev main_call8_c_3 : Ref sig .tc := ⟨.hbm, 352, rfl⟩
abbrev main_call8_v12 : Ref sig .tc := ⟨.hbm, 353, rfl⟩
abbrev main_call8_v13 : Ref sig .tc := ⟨.hbm, 354, rfl⟩
abbrev main_call8_cst : Ref sig .tc := ⟨.hbm, 355, rfl⟩
abbrev main_call8_v14 : Ref sig .tc := ⟨.hbm, 356, rfl⟩
abbrev main_v246 : Ref sig .tc := ⟨.hbm, 357, rfl⟩

abbrev nD : Nat := 1
abbrev τ : Topo := Topo.v7x

variable {F : FTy → Type} [FloatOps F]
-- ==== KernelErf.lean ====
abbrev S16384x4096 : Shape := ⟨2, ![16384, 4096]⟩
abbrev S4096x2048 : Shape := ⟨2, ![4096, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S1x2048 : Shape := ⟨2, ![1, 2048]⟩
abbrev S16384x2048 : Shape := ⟨2, ![16384, 2048]⟩
abbrev S256x4096 : Shape := ⟨2, ![256, 4096]⟩
abbrev S256x2048 : Shape := ⟨2, ![256, 2048]⟩
abbrev S_ : Shape := ⟨0, ![]⟩
abbrev S16384 : Shape := ⟨1, ![16384]⟩
abbrev S16384x1 : Shape := ⟨2, ![16384, 1]⟩
abbrev S1x64 : Shape := ⟨2, ![1, 64]⟩
abbrev S16384x8 : Shape := ⟨2, ![16384, 8]⟩
abbrev S256x1 : Shape := ⟨2, ![256, 1]⟩
abbrev S256x8 : Shape := ⟨2, ![256, 8]⟩
abbrev S256x64 : Shape := ⟨2, ![256, 64]⟩
abbrev S256 : Shape := ⟨1, ![256]⟩
abbrev S256x32 : Shape := ⟨2, ![256, 32]⟩
abbrev S256x16 : Shape := ⟨2, ![256, 16]⟩
abbrev S256x4 : Shape := ⟨2, ![256, 4]⟩
abbrev S256x2 : Shape := ⟨2, ![256, 2]⟩

abbrev nBuf : Space → Nat
  | .hbm => 25
  | .vmem => 21
  | .smem => 0
  | _ => 0

abbrev bufTy : (tb : Table) → Fin (tcTables nBuf tb) → BufTy
  | .hbm, ⟨0, _⟩ => ⟨S16384x4096, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x64, .f32⟩
  | .hbm, ⟨9, _⟩ => ⟨S64, .f32⟩
  | .hbm, ⟨10, _⟩ => ⟨S1x2048, .f32⟩
  | .hbm, ⟨11, _⟩ => ⟨S16384x2048, .f32⟩
  | .hbm, ⟨12, _⟩ => ⟨S16384x2048, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S1x2048, .f32⟩
  | .hbm, ⟨20, _⟩ => ⟨S1x2048, .f32⟩
  | .hbm, ⟨21, _⟩ => ⟨S1x2048, .f32⟩
  | .hbm, ⟨22, _⟩ => ⟨S1x64, .f32⟩
  | .hbm, ⟨23, _⟩ => ⟨S16384x8, .f32⟩
  | .hbm, ⟨24, _⟩ => ⟨S16384x8, .i32⟩
  | .local _ .vmem, ⟨0, _⟩ => ⟨S256x4096, .f32⟩
  | .local _ .vmem, ⟨1, _⟩ => ⟨S256x4096, .f32⟩
  | .local _ .vmem, ⟨2, _⟩ => ⟨S4096x2048, .f32⟩
  | .local _ .vmem, ⟨3, _⟩ => ⟨S1x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x1, .f32⟩
  | .local _ .vmem, ⟨9, _⟩ => ⟨S256x1, .f32⟩
  | .local _ .vmem, ⟨10, _⟩ => ⟨S1x2048, .f32⟩
  | .local _ .vmem, ⟨11, _⟩ => ⟨S2048x2048, .f32⟩
  | .local _ .vmem, ⟨12, _⟩ => ⟨S1x2048, .f32⟩
  | .local _ .vmem, ⟨13, _⟩ => ⟨S2048x2048, .f32⟩
  | .local _ .vmem, ⟨14, _⟩ => ⟨S1x2048, .f32⟩
  | .local _ .vmem, ⟨15, _⟩ => ⟨S2048x64, .f32⟩
  | .local _ .vmem, ⟨16, _⟩ => ⟨S1x64, .f32⟩
  | .local _ .vmem, ⟨17, _⟩ => ⟨S256x8, .f32⟩
  | .local _ .vmem, ⟨18, _⟩ => ⟨S256x8, .f32⟩
  | .local _ .vmem, ⟨19, _⟩ => ⟨S256x8, .i32⟩
  | .local _ .vmem, ⟨20, _⟩ => ⟨S256x8, .i32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_cst : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11_0 : Ref sig .tc := ⟨.hbm, 23, rfl⟩
abbrev main_v11_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg5_0 : Ref sig .tc := ⟨.vmem, 13, rfl⟩
abbrev cc1_stg6_0 : Ref sig .tc := ⟨.vmem, 14, rfl⟩
abbrev cc1_stg7_0 : Ref sig .tc := ⟨.vmem, 15, rfl⟩
abbrev cc1_stg8_0 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem5_0 : DmaSem sig := 13
abbrev cc1_sem6_0 : DmaSem sig := 14
abbrev cc1_sem7_0 : DmaSem sig := 15
abbrev cc1_sem8_0 : DmaSem sig := 16
abbrev cc1_sem9_0 : DmaSem sig := 17
abbrev cc1_sem9_1 : DmaSem sig := 18
abbrev cc1_sem10_0 : DmaSem sig := 19
abbrev cc1_sem10_1 : DmaSem sig := 20

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x2048 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x2048 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2048 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x2048 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x2048 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2048x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S256x8 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x8 .i32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]
-- ==== ReferenceErfIdeal.lean ====
abbrev S16384x4096 : Shape := ⟨2, ![16384, 4096]⟩
abbrev S4096x2048 : Shape := ⟨2, ![4096, 2048]⟩
abbrev S2048 : Shape := ⟨1, ![2048]⟩
abbrev S2048x2048 : Shape := ⟨2, ![2048, 2048]⟩
abbrev S2048x64 : Shape := ⟨2, ![2048, 64]⟩
abbrev S64 : Shape := ⟨1, ![64]⟩
abbrev S16384x2048 : Shape := ⟨2, ![16384, 2048]⟩
abbrev S1x2048 : Shape := ⟨2, ![1, 2048]⟩
abbrev S_ : Shape := ⟨0, ![]⟩
abbrev S16384 : Shape := ⟨1, ![16384]⟩
abbrev S16384x1 : Shape := ⟨2, ![16384, 1]⟩
abbrev S16384x64 : Shape := ⟨2, ![16384, 64]⟩
abbrev S1x64 : Shape := ⟨2, ![1, 64]⟩
abbrev S16384x8 : Shape := ⟨2, ![16384, 8]⟩
abbrev S16384x8x1 : Shape := ⟨3, ![16384, 8, 1]⟩
abbrev S1 : Shape := ⟨1, ![1]⟩
abbrev S1x1x1 : Shape := ⟨3, ![1, 1, 1]⟩

abbrev nBuf : Space → Nat
  | .hbm => 98
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096x2048, .f32⟩
  | .hbm, ⟨2, _⟩ => ⟨S2048, .f32⟩
  | .hbm, ⟨3, _⟩ => ⟨S2048, .f32⟩
  | .hbm, ⟨4, _⟩ => ⟨S2048x2048, .f32⟩
  | .hbm, ⟨5, _⟩ => ⟨S2048, .f32⟩
  | .hbm, ⟨6, _⟩ => ⟨S2048x2048, .f32⟩
  | .hbm, ⟨7, _⟩ => ⟨S2048, .f32⟩
  | .hbm, ⟨8, _⟩ => ⟨S2048x64, .f32⟩
  | .hbm, ⟨9, _⟩ => ⟨S64, .f32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S_, .f32⟩
  | .hbm, ⟨22, _⟩ => ⟨S16384x1, .f32⟩
  | .hbm, ⟨23, _⟩ => ⟨S16384x1, .f32⟩
  | .hbm, ⟨24, _⟩ => ⟨S16384x1, .f32⟩
  | .hbm, ⟨25, _⟩ => ⟨S16384x2048, .f32⟩
  | .hbm, ⟨26, _⟩ => ⟨S16384x2048, .f32⟩
  | .hbm, ⟨27, _⟩ => ⟨S1x2048, .f32⟩
  | .hbm, ⟨28, _⟩ => ⟨S16384x2048, .f32⟩
  | .hbm, ⟨29, _⟩ => ⟨S16384x2048, .f32⟩
  | .hbm, ⟨30, _⟩ => ⟨S16384x2048, .f32⟩
  | .hbm, ⟨31, _⟩ => ⟨S1x2048, .f32⟩
  | .hbm, ⟨32, _⟩ => ⟨S16384x2048, .f32⟩
  | .hbm, ⟨33, _⟩ => ⟨S16384x2048, .f32⟩
  | .hbm, ⟨34, _⟩ => ⟨S_, .f32⟩
  | .hbm, ⟨35, _⟩ => ⟨S16384x2048, .f32⟩
  | .hbm, ⟨36, _⟩ => ⟨S16384x2048, .f32⟩
  | .hbm, ⟨37, _⟩ => ⟨S16384x2048, .f32⟩
  | .hbm, ⟨38, _⟩ => ⟨S_, .f32⟩
  | .hbm, ⟨39, _⟩ => ⟨S16384x2048, .f32⟩
  | .hbm, ⟨40, _⟩ => ⟨S16384x2048, .f32⟩
  | .hbm, ⟨41, _⟩ => ⟨S16384x2048, .f32⟩
  | .hbm, ⟨42, _⟩ => ⟨S16384x2048, .f32⟩
  | .hbm, ⟨43, _⟩ => ⟨S16384x2048, .f32⟩
  | .hbm, ⟨44, _⟩ => ⟨S1x2048, .f32⟩
  | .hbm, ⟨45, _⟩ => ⟨S16384x2048, .f32⟩
  | .hbm, ⟨46, _⟩ => ⟨S16384x2048, .f32⟩
  | .hbm, ⟨47, _⟩ => ⟨S_, .f32⟩
  | .hbm, ⟨48, _⟩ => ⟨S16384x2048, .f32⟩
  | .hbm, ⟨49, _⟩ => ⟨S16384x2048, .f32⟩
  | .hbm, ⟨50, _⟩ => ⟨S16384x2048, .f32⟩
  | .hbm, ⟨51, _⟩ => ⟨S_, .f32⟩
  | .hbm, ⟨52, _⟩ => ⟨S16384x2048, .f32⟩
  | .hbm, ⟨53, _⟩ => ⟨S16384x2048, .f32⟩
  | .hbm, ⟨54, _⟩ => ⟨S16384x2048, .f32⟩
  | .hbm, ⟨55, _⟩ => ⟨S16384x2048, .f32⟩
  | .hbm, ⟨56, _⟩ => ⟨S16384x64, .f32⟩
  | .hbm, ⟨57, _⟩ => ⟨S_, .f32⟩
  | .hbm, ⟨58, _⟩ => ⟨S16384, .f32⟩
  | .hbm, ⟨59, _⟩ => ⟨S_, .f32⟩
  | .hbm, ⟨60, _⟩ => ⟨S16384, .f32⟩
  | .hbm, ⟨61, _⟩ => ⟨S16384, .f32⟩
  | .hbm, ⟨62, _⟩ => ⟨S16384x1, .f32⟩
  | .hbm, ⟨63, _⟩ => ⟨S16384x64, .f32⟩
  | .hbm, ⟨64, _⟩ => ⟨S16384x64, .f32⟩
  | .hbm, ⟨65, _⟩ => ⟨S16384x64, .f32⟩
  | .hbm, ⟨66, _⟩ => ⟨S_, .f32⟩
  | .hbm, ⟨67, _⟩ => ⟨S16384, .f32⟩
  | .hbm, ⟨68, _⟩ => ⟨S16384x1, .f32⟩
  | .hbm, ⟨69, _⟩ => ⟨S16384x64, .f32⟩
  | .hbm, ⟨70, _⟩ => ⟨S16384x64, .f32⟩
  | .hbm, ⟨71, _⟩ => ⟨S1x64, .f32⟩
  | .hbm, ⟨72, _⟩ => ⟨S16384x64, .f32⟩
  | .hbm, ⟨73, _⟩ => ⟨S16384x64, .f32⟩
  | .hbm, ⟨74, _⟩ => ⟨S16384x8, .f32⟩
  | .hbm, ⟨75, _⟩ => ⟨S16384x8, .i32⟩
  | .hbm, ⟨76, _⟩ => ⟨S_, .i32⟩
  | .hbm, ⟨77, _⟩ => ⟨S16384x8, .i32⟩
  | .hbm, ⟨78, _⟩ => ⟨S16384x8, .i1⟩
  | .hbm, ⟨79, _⟩ => ⟨S_, .i32⟩
  | .hbm, ⟨80, _⟩ => ⟨S16384x8, .i32⟩
  | .hbm, ⟨81, _⟩ => ⟨S16384x8, .i32⟩
  | .hbm, ⟨82, _⟩ => ⟨S16384x8, .i32⟩
  | .hbm, ⟨83, _⟩ => ⟨S16384x8x1, .i32⟩
  | .hbm, ⟨84, _⟩ => ⟨S1, .i32⟩
  | .hbm, ⟨85, _⟩ => ⟨S_, .i32⟩
  | .hbm, ⟨86, _⟩ => ⟨S16384x8x1, .i32⟩
  | .hbm, ⟨87, _⟩ => ⟨S16384x8x1, .i1⟩
  | .hbm, ⟨88, _⟩ => ⟨S1x1x1, .i32⟩
  | .hbm, ⟨89, _⟩ => ⟨S16384x8x1, .i32⟩
  | .hbm, ⟨90, _⟩ => ⟨S16384x8x1, .i1⟩
  | .hbm, ⟨91, _⟩ => ⟨S16384x8x1, .i1⟩
  | .hbm, ⟨92, _⟩ => ⟨S_, .i1⟩
  | .hbm, ⟨93, _⟩ => ⟨S16384x8, .i1⟩
  | .hbm, ⟨94, _⟩ => ⟨S16384x8, .f32⟩
  | .hbm, ⟨95, _⟩ => ⟨S_, .f32⟩
  | .hbm, ⟨96, _⟩ => ⟨S16384x8, .f32⟩
  | .hbm, ⟨97, _⟩ => ⟨S16384x8, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_cst : Ref sig .tc := ⟨.hbm, 15, rfl⟩
abbrev main_v5 : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_v8 : Ref sig .tc := ⟨.hbm, 20, rfl⟩
abbrev main_cst_1 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_2 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_cst_6 : Ref sig .tc := ⟨.hbm, 57, rfl⟩
abbrev main_v40 : Ref sig .tc := ⟨.hbm, 58, rfl⟩
abbrev main_cst_7 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_8 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_values : Ref sig .tc := ⟨.hbm, 74, rfl⟩
abbrev main_indices : Ref sig .tc := ⟨.hbm, 75, rfl⟩
abbrev main_call0_c : Ref sig .tc := ⟨.hbm, 76, rfl⟩
abbrev main_call0_v0 : Ref sig .tc := ⟨.hbm, 77, rfl⟩
abbrev main_call0_v1 : Ref sig .tc := ⟨.hbm, 78, rfl⟩
abbrev main_call0_c_0 : Ref sig .tc := ⟨.hbm, 79, rfl⟩
abbrev main_call0_v2 : Ref sig .tc := ⟨.hbm, 80, rfl⟩
abbrev main_call0_v3 : Ref sig .tc := ⟨.hbm, 81, rfl⟩
abbrev main_call0_v4 : Ref sig .tc := ⟨.hbm, 82, rfl⟩
abbrev main_call0_v5 : Ref sig .tc := ⟨.hbm, 83, rfl⟩
abbrev main_call0_c_1 : Ref sig .tc := ⟨.hbm, 84, rfl⟩
abbrev main_call0_c_2 : Ref sig .tc := ⟨.hbm, 85, rfl⟩
abbrev main_call0_v6 : Ref sig .tc := ⟨.hbm, 86, rfl⟩
abbrev main_call0_v7 : Ref sig .tc := ⟨.hbm, 87, rfl⟩
abbrev main_call0_v8 : Ref sig .tc := ⟨.hbm, 88, rfl⟩
abbrev main_call0_v9 : Ref sig .tc := ⟨.hbm, 89, rfl⟩
abbrev main_call0_v10 : Ref sig .tc := ⟨.hbm, 90, rfl⟩
abbrev main_call0_v11 : Ref sig .tc := ⟨.hbm, 91, rfl⟩
abbrev main_call0_c_3 : Ref sig .tc := ⟨.hbm, 92, rfl⟩
abbrev main_call0_v12 : Ref sig .tc := ⟨.hbm, 93, rfl⟩
abbrev main_call0_v13 : Ref sig .tc := ⟨.hbm, 94, rfl⟩
abbrev main_call0_cst : Ref sig .tc := ⟨.hbm, 95, rfl⟩
abbrev main_call0_v14 : Ref sig .tc := ⟨.hbm, 96, rfl⟩
abbrev main_v54 : Ref sig .tc := ⟨.hbm, 97, rfl⟩

abbrev nD : Nat := 1
abbrev τ : Topo := Topo.v7x

variable {F : FTy → Type} [FloatOps F]
-- ==== Proof.TopK.lean ====
/- Taking the greatest entries of a row one after another, first occurrences first: the place of an entry in that order,
   the entry a round of "greatest remaining, least index" picks, and the entry a stable sort puts at a place. -/
module

public import Idealize.ShloMosaic.PureOps
public import Idealize.ShloMosaic.PureOps.Ideal
public import Idealize.ShloMosaic.Lib.SortFacts

@[expose] public section

noncomputable section

namespace Cert.Router

open Idealize.ShloMosaic

variable {n : Nat}

/-- Entry `j` comes before entry `i`: it is greater, or equal and at a lower index. -/
def Before (v : Fin n → EReal) (j i : Fin n) : Prop := v i < v j ∨ (v j = v i ∧ j < i)

theorem Before.trans {v : Fin n → EReal} {a b c : Fin n} (h : Before v a b) (h' : Before v b c) : Before v a c := by
  rcases h with h | ⟨h, i⟩ <;> rcases h' with h' | ⟨h', i'⟩
  · exact Or.inl (h'.trans h)
  · exact Or.inl (h' ▸ h)
  · exact Or.inl (h ▸ h')
  · exact Or.inr ⟨h.trans h', i.trans i'⟩

theorem Before.irrefl (v : Fin n → EReal) (a : Fin n) : ¬ Before v a a := by
  rintro (h | ⟨-, h⟩) <;> exact lt_irrefl _ h

/-- Of two different entries one comes before the other. -/
theorem Before.total (v : Fin n → EReal) {a b : Fin n} (h : a ≠ b) : Before v a b ∨ Before v b a := by
  rcases lt_trichotomy (v a) (v b) with l | e | l
  · exact Or.inr (Or.inl l)
  · rcases lt_or_gt_of_ne h with i | i
    · exact Or.inl (Or.inr ⟨e, i⟩)
    · exact Or.inr (Or.inr ⟨e.symm, i⟩)
  · exact Or.inl (Or.inl l)

open Classical in
/-- The place of entry `i`: how many entries come before it. -/
def place (v : Fin n → EReal) (i : Fin n) : Nat := (Finset.univ.filter fun j => Before v j i).card

open Classical in
theorem place_lt_of_before {v : Fin n → EReal} {a b : Fin n} (h : Before v a b) : place v a < place v b := by
  refine Finset.card_lt_card ⟨fun j hj => ?_, fun hs => ?_⟩
  · simp only [Finset.mem_filter, Finset.mem_univ, true_and] at hj ⊢; exact hj.trans h
  · have := hs (by simpa using h : a ∈ _)
    simp only [Finset.mem_filter, Finset.mem_univ, true_and] at this
    exact Before.irrefl v a this

theorem place_lt_iff {v : Fin n → EReal} {a b : Fin n} : place v a < place v b ↔ Before v a b := by
  refine ⟨fun h => ?_, place_lt_of_before⟩
  have hne : a ≠ b := by rintro rfl; exact lt_irrefl _ h
  rcases Before.total v hne with h' | h'
  · exact h'
  · exact absurd (place_lt_of_before h') (by omega)

theorem place_injective (v : Fin n → EReal) : Function.Injective (place v) := by
  intro a b h
  by_contra hne
  rcases Before.total v hne with h' | h' <;> have := place_lt_of_before h' <;> omega

/-- The row with its first `k` entries (in that order) overwritten by −∞. -/
def masked (v : Fin n → EReal) (k : Nat) (i : Fin n) : EReal := if place v i < k then ⊥ else v i

/-- Among the entries left after `k` rounds, the one that comes before all others is at place `k`. -/
theorem place_of_top {v : Fin n → EReal} (hv : ∀ i, v i ≠ ⊥) {k : Nat} {t e : Fin n} (he : place v e = k)
    (ht : ∀ j, j ≠ t → Before (masked v k) t j) : t = e := by
  by_contra hne
  have h := ht e (Ne.symm hne)
  have hme : masked v k e = v e := by unfold masked; rw [if_neg (by omega)]
  by_cases hk : place v t < k
  · have hmt : masked v k t = ⊥ := by unfold masked; rw [if_pos hk]
    rcases h with h | ⟨h, -⟩
    · rw [hmt] at h; exact not_lt_bot h
    · exact hv e (by rw [← hme, ← h, hmt])
  · have hmt : masked v k t = v t := by unfold masked; rw [if_neg hk]
    have : Before v t e := by
      rcases h with h | ⟨h, i⟩
      · exact Or.inl (by rw [hme, hmt] at h; exact h)
      · exact Or.inr ⟨by rw [hme, hmt] at h; exact h, i⟩
    have := place_lt_of_before this
    omega

/-- Overwriting the entry at place `k` goes from the row after `k` rounds to the row after `k + 1`. -/
theorem masked_succ {v : Fin n → EReal} {k : Nat} {e : Fin n} (he : place v e = k) (i : Fin n) :
    (if i = e then ⊥ else masked v k i) = masked v (k + 1) i := by
  unfold masked
  by_cases h : i = e
  · subst h; simp [he]
  · rw [if_neg h]
    have : place v i ≠ k := fun h' => h (place_injective v (h'.trans he.symm))
    by_cases h' : place v i < k
    · rw [if_pos h', if_pos (by omega)]
    · rw [if_neg h', if_neg (by omega)]

/-! ## The stable sort -/

theorem pairwise_insertBefore_of (v : Fin n → EReal) (R : Fin n → Fin n → Bool) (hR : ∀ a b, R a b = true ↔ v b < v a)
    (a : Fin n) (l : List (Fin n)) (hl : l.Pairwise (Before v)) (ha : ∀ b ∈ l, a < b) :
    (insertBefore R a l).Pairwise (Before v) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore R a l).mem_iff.mp hc) with rfl | hc'
      · exact Or.inl ((hR _ _).mp h)
      · exact hl.1 c hc'
    · rename_i h
      have hab : Before v a b := by
        have hle : v b ≤ v a := not_lt.mp fun h' => h ((hR _ _).mpr h')
        rcases hle.lt_or_eq with h' | h'
        · exact Or.inl h'
        · exact Or.inr ⟨h'.symm, ha b List.mem_cons_self⟩
      refine List.pairwise_cons.mpr ⟨fun c hc => ?_, List.pairwise_cons.mpr hl⟩
      rcases List.mem_cons.mp hc with rfl | hc'
      · exact hab
      · exact hab.trans (hl.1 c hc')

theorem pairwise_stableSort_of (v : Fin n → EReal) (R : Fin n → Fin n → Bool) (hR : ∀ a b, R a b = true ↔ v b < v a)
    (l : List (Fin n)) (hl : l.Pairwise (· < ·)) : (stableSort R l).Pairwise (Before v) := by
  induction l with
  | nil => exact List.Pairwise.nil
  | cons a l ih =>
    rw [List.pairwise_cons] at hl
    unfold stableSort
    exact pairwise_insertBefore_of v R hR a _ (ih hl.2) fun b hb => hl.1 b ((perm_stableSort R l).mem_iff.mp hb)

/-- The entry a stable sort by "greater first" puts at position `k` is the one at place `k`. -/
theorem place_sortedFrom (v : Fin n → EReal) (R : Fin n → Fin n → Bool) (hR : ∀ a b, R a b = true ↔ v b < v a)
    (k : Fin n) : place v (sortedFrom R k) = k := by
  classical
  have hp : ∀ i j : Fin n, i < j → Before v (sortedFrom R i) (sortedFrom R j) := by
    intro i j hij
    have h : ∀ a b : Fin (sortPositions n R).length, a < b →
        Before v ((sortPositions n R).get a) ((sortPositions n R).get b) :=
      List.pairwise_iff_get.mp (pairwise_stableSort_of v R hR (List.finRange n) (List.pairwise_lt_finRange n))
    unfold sortedFrom
    exact h _ _ (by simp only [Fin.lt_def, Fin.val_cast]; exact hij)
  have hb : ∀ i j : Fin n, Before v (sortedFrom R i) (sortedFrom R j) ↔ i < j := by
    intro i j
    refine ⟨fun h => ?_, hp i j⟩
    rcases lt_trichotomy i j with h' | h' | h'
    · exact h'
    · subst h'; exact absurd h (Before.irrefl v _)
    · exact absurd ((hp j i h').trans h) (Before.irrefl v _)
  have hset : (Finset.univ.filter fun j => Before v j (sortedFrom R k))
      = (Finset.univ.filter fun j : Fin n => j < k).map ⟨sortedFrom R, sortedFrom_injective R⟩ := by
    ext j
    obtain ⟨i, rfl⟩ := sortedFrom_surjective R j
    simp only [Finset.mem_filter, Finset.mem_univ, true_and, Finset.mem_map, Function.Embedding.coeFn_mk, hb]
    exact ⟨fun h => ⟨i, h, rfl⟩, fun ⟨a, h, e⟩ => sortedFrom_injective R e ▸ h⟩
  unfold place
  rw [hset, Finset.card_map]
  have : (Finset.univ.filter fun j : Fin n => j < k) = Finset.Iio k := by ext; simp
  rw [this, Fin.card_Iio]

/-- Every place below `n` is some entry's. -/
theorem exists_place (v : Fin n → EReal) (k : Fin n) : ∃ e, place v e = k := by
  classical
  exact ⟨_, place_sortedFrom v (fun a b => decide (v b < v a)) (fun _ _ => by simp) k⟩

/-- The entry at place `k`. -/
def nth (v : Fin n → EReal) (k : Fin n) : Fin n := (exists_place v k).choose

theorem place_nth (v : Fin n → EReal) (k : Fin n) : place v (nth v k) = k := (exists_place v k).choose_spec

theorem sortedFrom_eq_nth (v : Fin n → EReal) (R : Fin n → Fin n → Bool) (hR : ∀ a b, R a b = true ↔ v b < v a)
    (k : Fin n) : sortedFrom R k = nth v k :=
  place_injective v ((place_sortedFrom v R hR k).trans (place_nth v k).symm)

end Cert.Router

end
-- ==== Proof.Row.lean ====
/- One row of the router as functions of its coordinates: the down projection, the mean square, the layers, the softmax, and
   the eight experts chosen with their probabilities. Both the kernels and the references are shown to compute these. -/
module

public import Idealize.ShloMosaic.PureOps
public import Idealize.ShloMosaic.PureOps.Ideal
public import proofs.«01_k».proof.Proof.TopK

@[expose] public section

noncomputable section

namespace Cert.Router

open Idealize.ShloMosaic

/-- A row times a matrix. -/
def linear {k n : Nat} (x : Fin k → EReal) (W : Fin k → Fin n → EReal) (j : Fin n) : EReal := ∑ i, x i * W i j

/-- A row times a matrix, plus a bias. -/
def affine {k n : Nat} (x : Fin k → EReal) (W : Fin k → Fin n → EReal) (b : Fin n → EReal) (j : Fin n) : EReal :=
  linear x W j + b j

/-- The mean of the squares of a row of 2048. -/
def meanSquare (h : Fin 2048 → EReal) : EReal := Ideal.div (∑ i, h i * h i) (Ideal.ofBits .f32 0x45000000#32)

/-- A row over the root of `v` plus ε, times the weights. -/
def scaled (h : Fin 2048 → EReal) (v : EReal) (w : Fin 2048 → EReal) (j : Fin 2048) : EReal :=
  h j * Ideal.rsqrt (v + Ideal.ofBits .f32 0x3727C5AC#32) * w j

/-- A row's maximum. -/
def top {n : Nat} (l : Fin n → EReal) : EReal := Finset.univ.fold max ⊥ fun k => l k

/-- The softmax of a row. -/
def soft {n : Nat} (l : Fin n → EReal) (e : Fin n) : EReal :=
  Ideal.div (Ideal.exp (l e - top l)) (∑ i, Ideal.exp (l i - top l))

/-- The logits of a row: two layers with the activation `g` after the mean-square normalization, and the last product. -/
def scores (g : EReal → EReal) (h : Fin 2048 → EReal) (v : EReal) (w : Fin 2048 → EReal) (W1 : Fin 2048 → Fin 2048 → EReal)
    (b1 : Fin 2048 → EReal) (W2 : Fin 2048 → Fin 2048 → EReal) (b2 : Fin 2048 → EReal) (W3 : Fin 2048 → Fin 64 → EReal) :
    Fin 64 → EReal :=
  linear (fun j => g (affine (fun j => g (affine (scaled h v w) W1 b1 j)) W2 b2 j)) W3

/-- The experts' probabilities of a row. -/
def gates (g : EReal → EReal) (h : Fin 2048 → EReal) (v : EReal) (w : Fin 2048 → EReal) (W1 : Fin 2048 → Fin 2048 → EReal)
    (b1 : Fin 2048 → EReal) (W2 : Fin 2048 → Fin 2048 → EReal) (b2 : Fin 2048 → EReal) (W3 : Fin 2048 → Fin 64 → EReal) :
    Fin 64 → EReal :=
  soft (scores g h v w W1 b1 W2 b2 W3)

/-- The expert at place `k` when they are sorted by `p + b` from the greatest down, ties by number. -/
def expert (p b : Fin 64 → EReal) (k : Fin 8) : Fin 64 := nth (fun e => p e + b e) (k.castLE (by decide))

end Cert.Router
end
-- ==== Proof.Whole.lean ====
/- The router's results as functions of the argument arrays, row by row. -/
module

public import Idealize.ShloMosaic.Lib.Pointwise
public import proofs.«01_k».proof.Proof.Row

@[expose] public section

noncomputable section

namespace Cert.Router

open Idealize.ShloMosaic

/-- A vector over the extended reals. -/
abbrev Vec (a : Nat) : Type := (⟨1, ![a]⟩ : Shape).Idx → EReal
/-- A matrix over the extended reals. -/
abbrev Mat (a b : Nat) : Type := (⟨2, ![a, b]⟩ : Shape).Idx → EReal

/-- Row `r` of the down projection. -/
def hidden (x : Mat 16384 4096) (Wd : Mat 4096 2048) (bd : Vec 2048) (r : Fin 16384) : Fin 2048 → EReal :=
  affine (fun k => x (ix2 r k)) (fun k j => Wd (ix2 k j)) (fun j => bd (ix1 j))

/-- Row `h`'s probabilities over the experts. -/
def probs (g : EReal → EReal) (w : Vec 2048) (W1 : Mat 2048 2048) (b1 : Vec 2048) (W2 : Mat 2048 2048)
    (b2 : Vec 2048) (W3 : Mat 2048 64) (h : Fin 2048 → EReal) : Fin 64 → EReal :=
  gates g h (meanSquare h) (fun j => w (ix1 j)) (fun i j => W1 (ix2 i j)) (fun j => b1 (ix1 j)) (fun i j => W2 (ix2 i j))
    (fun j => b2 (ix1 j)) (fun i j => W3 (ix2 i j))

/-- The expert at place `k` of a row with probabilities `p`. -/
def chosen (be : Vec 64) (p : Fin 64 → EReal) (k : Fin 8) : Fin 64 := expert p (fun e => be (ix1 e)) k

/-- The first result: the chosen experts' probabilities. -/
def resP (g : EReal → EReal) (x : Mat 16384 4096) (Wd : Mat 4096 2048) (bd : Vec 2048) (w : Vec 2048) (W1 : Mat 2048 2048)
    (b1 : Vec 2048) (W2 : Mat 2048 2048) (b2 : Vec 2048) (W3 : Mat 2048 64) (be : Vec 64) : Mat 16384 8 := fun i =>
  let p := probs g w W1 b1 W2 b2 W3 (hidden x Wd bd (i 0))
  p (chosen be p (i 1))

/-- The second result: the chosen experts' numbers. -/
def resI (g : EReal → EReal) (x : Mat 16384 4096) (Wd : Mat 4096 2048) (bd : Vec 2048) (w : Vec 2048) (W1 : Mat 2048 2048)
    (b1 : Vec 2048) (W2 : Mat 2048 2048) (b2 : Vec 2048) (W3 : Mat 2048 64) (be : Vec 64) :
    (⟨2, ![16384, 8]⟩ : Shape).Idx → BitVec 32 := fun i =>
  BitVec.ofNat 32 (chosen be (probs g w W1 b1 W2 b2 W3 (hidden x Wd bd (i 0))) (i 1))

/-- The third result: the down projection. -/
def resH (x : Mat 16384 4096) (Wd : Mat 4096 2048) (bd : Vec 2048) : Mat 16384 2048 := fun i => hidden x Wd bd (i 0) (i 1)

/-- No probability plus its balancing bias is ⊥ (what the kernel's search by maxima relies on). -/
def Apart (g : EReal → EReal) (x : Mat 16384 4096) (Wd : Mat 4096 2048) (bd : Vec 2048) (w : Vec 2048) (W1 : Mat 2048 2048)
    (b1 : Vec 2048) (W2 : Mat 2048 2048) (b2 : Vec 2048) (W3 : Mat 2048 64) (be : Vec 64) : Prop :=
  ∀ r e, probs g w W1 b1 W2 b2 W3 (hidden x Wd bd r) e + be (ix1 e) ≠ ⊥

end Cert.Router
end
-- ==== Proof.Rational.lean ====
/- The single precision rational approximation of the complementary error function, as the reference writes it. -/
module

public import Idealize.ShloMosaic.PureOps.Ideal

@[expose] public section

noncomputable section

namespace Cert.Router

open Idealize.ShloMosaic

/-- The number a word stands for. -/
abbrev k (w : BitVec 32) : EReal := Ideal.ofBits .f32 w

/-- A polynomial by its coefficients from the highest power down. -/
def horner (y a : EReal) : List EReal → EReal
  | [] => a
  | c :: cs => horner y (a * y + c) cs

/-- The approximation at arguments under 1 in size, over the argument. -/
def nearly (s : EReal) : EReal :=
  horner s (k 0x38A4B519#32) [k 0xBA51FB80#32, k 0x3BAA02D9#32, k 0xBCDBFC87#32, k 0x3DE7167C#32, k 0xBEC0939F#32, k 0x3F906EBA#32]

/-- The tail's factor at arguments under 2 in size. -/
def middle (y : EReal) : EReal :=
  horner y (k 0x3CBE9CF4#32) [k 0xBE0E0868#32, k 0x3EBCCBD0#32, k 0xBF151CF8#32, k 0x3F1EF9E3#32, k 0xBEFD28C0#32, k 0x3EAE5471#32,
    k 0xBE8C5880#32, k 0x3F1056E6#32]

/-- The tail's factor at the other arguments. -/
def distant (y : EReal) : EReal :=
  horner y (k 0xC127A483#32) [k 0x414FA29C#32, k 0xC0EFDB4A#32, k 0x403AF1FA#32, k 0xBF81F436#32, k 0x3ED7FC3E#32, k 0xBE906C5D#32,
    k 0x3F106EB9#32]

/-- The tail of the approximation, for an argument over 0. -/
def ending (u : EReal) : EReal :=
  Scalar.select (Ideal.cmp .olt (-(u * u)) (k 0xC2B17218#32)) (k 0x00000000#32)
    (Ideal.exp (-(u * u)) * Ideal.div (k 0x3F800000#32) (max u (-u))
      * Scalar.select (Ideal.cmp .olt (max u (-u)) (k 0x40000000#32))
        (middle (Ideal.div (k 0x3F800000#32) (max u (-u)) * Ideal.div (k 0x3F800000#32) (max u (-u))))
        (distant (Ideal.div (k 0x3F800000#32) (max u (-u)) * Ideal.div (k 0x3F800000#32) (max u (-u)))))

/-- The approximation of the complementary error function. -/
def rational (u : EReal) : EReal :=
  Scalar.select (Ideal.cmp .olt (max u (-u)) (k 0x3F800000#32)) (k 0x3F800000#32 - u * nearly (u * u))
    (Scalar.select (Ideal.cmp .olt u (k 0x00000000#32)) (k 0x40000000#32 - ending u) (ending u))

/-- The activation by that approximation. -/
def activation (x : EReal) : EReal := k 0x3F000000#32 * x * rational (-x * k 0x3F3504F3#32)

end Cert.Router
end
-- ==== Proof.Finite.lean ====
/- Where the router's scalar functions are finite: every probability is a real number when the router's
   weights are. -/
module

public import Mathlib.MeasureTheory.Integral.IntervalIntegral.Basic
public import proofs.«01_k».proof.Proof.Whole
public import proofs.«01_k».proof.Proof.Rational

@[expose] public section

noncomputable section

namespace Cert.Router

open Idealize.ShloMosaic

/-- Neither infinity. -/
def IsReal (x : EReal) : Prop := ∃ r : ℝ, x = (r : EReal)

/-- A sum of real numbers, taken in the extended reals. -/
theorem coe_sum {n : Nat} (r : Fin n → ℝ) : ((∑ i, r i : ℝ) : EReal) = ∑ i, (r i : EReal) :=
  map_sum (⟨⟨fun x : ℝ => (x : EReal), EReal.coe_zero⟩, EReal.coe_add⟩ : ℝ →+ EReal) r Finset.univ

namespace IsReal

theorem coe (r : ℝ) : IsReal (r : EReal) := ⟨r, rfl⟩

theorem add {x y : EReal} : IsReal x → IsReal y → IsReal (x + y) := by
  rintro ⟨a, rfl⟩ ⟨b, rfl⟩; exact ⟨a + b, (EReal.coe_add a b).symm⟩

theorem sub {x y : EReal} : IsReal x → IsReal y → IsReal (x - y) := by
  rintro ⟨a, rfl⟩ ⟨b, rfl⟩; exact ⟨a - b, (EReal.coe_sub a b).symm⟩

theorem mul {x y : EReal} : IsReal x → IsReal y → IsReal (x * y) := by
  rintro ⟨a, rfl⟩ ⟨b, rfl⟩; exact ⟨a * b, (EReal.coe_mul a b).symm⟩

theorem neg {x : EReal} : IsReal x → IsReal (-x) := by
  rintro ⟨a, rfl⟩; exact ⟨-a, (EReal.coe_neg a).symm⟩

theorem max {x y : EReal} (hx : IsReal x) (hy : IsReal y) : IsReal (max x y) := by
  rcases max_choice x y with h | h <;> rw [h] <;> assumption

theorem sum {n : Nat} {f : Fin n → EReal} (h : ∀ i, IsReal (f i)) : IsReal (∑ i, f i) := by
  choose r hr using h
  refine ⟨∑ i, r i, ?_⟩
  simp only [hr]
  exact (coe_sum _).symm

theorem select {x y : EReal} (c : BitVec 1) (hx : IsReal x) (hy : IsReal y) : IsReal (Scalar.select c x y) := by
  unfold Scalar.select
  split <;> assumption

theorem exp {x : EReal} : IsReal x → IsReal (Ideal.exp x) := by
  rintro ⟨a, rfl⟩; exact ⟨Real.exp a, rfl⟩

theorem erf {x : EReal} : IsReal x → IsReal (Ideal.erf x) := by
  rintro ⟨a, rfl⟩; exact ⟨_, Ideal.erf_coe a⟩

theorem inv {x : EReal} : IsReal x → IsReal x⁻¹ := by
  rintro ⟨a, rfl⟩; exact ⟨a⁻¹, (EReal.coe_inv a).symm⟩

theorem div {x y : EReal} (hx : IsReal x) (hy : IsReal y) (h : y ≠ 0) : IsReal (Ideal.div x y) := by
  unfold Ideal.div; rw [if_neg h]; exact hx.mul hy.inv

theorem rsqrt {x : EReal} (hx : IsReal x) (h : 0 < x) : IsReal (Ideal.rsqrt x) := by
  obtain ⟨a, rfl⟩ := hx
  have ha : 0 < a := EReal.coe_pos.mp h
  rw [Ideal.rsqrt_coe, if_neg (not_lt.mpr ha.le), if_neg ha.ne']
  exact ⟨_, rfl⟩

theorem ne_bot {x : EReal} : IsReal x → x ≠ ⊥ := by
  rintro ⟨a, rfl⟩; exact EReal.coe_ne_bot a

end IsReal

/-- A word whose exponent field is not all ones stands for a real number. -/
theorem isReal_k (w : BitVec 32) (h : (w.extractLsb' 23 8).toNat ≠ 255 := by decide) : IsReal (k w) := by
  unfold k
  simp only [Ideal.ofBits, Ideal.ieee]
  rw [if_neg (by norm_num; exact h)]
  split
  · exact ⟨_, rfl⟩
  · exact ⟨_, rfl⟩

theorem isReal_horner {y : EReal} (hy : IsReal y) (cs : List EReal) (hc : ∀ c ∈ cs, IsReal c) (a : EReal) (ha : IsReal a) :
    IsReal (horner y a cs) := by
  induction cs generalizing a with
  | nil => exact ha
  | cons c cs ih =>
    exact ih (fun d hd => hc d (List.mem_cons_of_mem _ hd)) _ ((ha.mul hy).add (hc c List.mem_cons_self))

theorem isReal_nearly {y : EReal} (hy : IsReal y) : IsReal (nearly y) := by
  refine isReal_horner hy _ ?_ _ (isReal_k _)
  simp only [List.mem_cons, List.not_mem_nil, or_false, forall_eq_or_imp, forall_eq]
  exact ⟨isReal_k _, isReal_k _, isReal_k _, isReal_k _, isReal_k _, isReal_k _⟩

theorem isReal_middle {y : EReal} (hy : IsReal y) : IsReal (middle y) := by
  refine isReal_horner hy _ ?_ _ (isReal_k _)
  simp only [List.mem_cons, List.not_mem_nil, or_false, forall_eq_or_imp, forall_eq]
  exact ⟨isReal_k _, isReal_k _, isReal_k _, isReal_k _, isReal_k _, isReal_k _, isReal_k _, isReal_k _⟩

theorem isReal_distant {y : EReal} (hy : IsReal y) : IsReal (distant y) := by
  refine isReal_horner hy _ ?_ _ (isReal_k _)
  simp only [List.mem_cons, List.not_mem_nil, or_false, forall_eq_or_imp, forall_eq]
  exact ⟨isReal_k _, isReal_k _, isReal_k _, isReal_k _, isReal_k _, isReal_k _, isReal_k _⟩

theorem size_zero : (max 0 (-0) : EReal) = 0 := by simp

/-- The size of a real number is zero only at zero. -/
theorem size_ne_zero {u : EReal} (h : u ≠ 0) : max u (-u) ≠ 0 := by
  intro e
  rcases lt_trichotomy u 0 with l | l | l
  · have : 0 < -u := by simpa using EReal.neg_lt_neg_iff.mpr l
    exact absurd e (lt_of_lt_of_le this (le_max_right _ _)).ne'
  · exact h l
  · exact absurd e (lt_of_lt_of_le l (le_max_left _ _)).ne'

/-- At zero the approximation takes its first branch. -/
theorem near_zero : Ideal.cmp .olt (max 0 (-0) : EReal) (k 0x3F800000#32) = 1#1 := by
  rw [size_zero, show k 0x3F800000#32 = 1 from Ideal.ofBits_one_f32]
  show BitVec.ofBool (decide ((0 : EReal) < 1)) = 1#1
  rw [decide_eq_true zero_lt_one]; rfl

theorem isReal_rational {u : EReal} (hu : IsReal u) : IsReal (rational u) := by
  have h1 : IsReal (k 0x3F800000#32 - u * nearly (u * u)) :=
    (isReal_k _).sub (hu.mul (isReal_nearly (hu.mul hu)))
  by_cases h : u = 0
  · unfold rational
    rw [show Ideal.cmp .olt (max u (-u)) (k 0x3F800000#32) = 1#1 by rw [h]; exact near_zero]
    exact h1
  · have hq : IsReal (Ideal.div (k 0x3F800000#32) (max u (-u))) := (isReal_k _).div (hu.max hu.neg) (size_ne_zero h)
    have he : IsReal (ending u) := IsReal.select _ (isReal_k _)
      (((hu.mul hu).neg.exp.mul hq).mul (IsReal.select _ (isReal_middle (hq.mul hq)) (isReal_distant (hq.mul hq))))
    exact IsReal.select _ h1 (IsReal.select _ ((isReal_k _).sub he) he)

theorem isReal_activation {x : EReal} (hx : IsReal x) : IsReal (activation x) :=
  ((isReal_k _).mul hx).mul (isReal_rational (hx.neg.mul (isReal_k _)))

/-- Over the square of a real number other than zero is the square of over its size. -/
theorem div_square {u : EReal} (hu : IsReal u) (h : u ≠ 0) :
    Ideal.div (k 0x3F800000#32) (u * u)
      = Ideal.div (k 0x3F800000#32) (max u (-u)) * Ideal.div (k 0x3F800000#32) (max u (-u)) := by
  obtain ⟨a, rfl⟩ := hu
  have ha : a ≠ 0 := fun e => h (by rw [e]; rfl)
  have hm : max (a : EReal) (-(a : EReal)) = ((|a| : ℝ) : EReal) := by
    rw [← EReal.coe_neg, abs_eq_max_neg]
    exact (EReal.coe_strictMono.monotone.map_max).symm
  rw [hm, ← EReal.coe_mul, show k 0x3F800000#32 = 1 from Ideal.ofBits_one_f32]
  unfold Ideal.div
  rw [if_neg (by exact_mod_cast mul_ne_zero ha ha), if_neg (by exact_mod_cast abs_ne_zero.mpr ha), one_mul, one_mul,
    ← EReal.coe_inv, ← EReal.coe_inv, ← EReal.coe_mul]
  congr 1
  rw [← mul_inv, abs_mul_abs_self]

/-! ## The router's rows -/

theorem isReal_linear {m n : Nat} {x : Fin m → EReal} {W : Fin m → Fin n → EReal} (hx : ∀ i, IsReal (x i)) (hW : ∀ i j, IsReal (W i j))
    (j : Fin n) : IsReal (linear x W j) := IsReal.sum fun i => (hx i).mul (hW i j)

theorem isReal_affine {m n : Nat} {x : Fin m → EReal} {W : Fin m → Fin n → EReal} {b : Fin n → EReal} (hx : ∀ i, IsReal (x i))
    (hW : ∀ i j, IsReal (W i j)) (hb : ∀ j, IsReal (b j)) (j : Fin n) : IsReal (affine x W b j) :=
  (isReal_linear hx hW j).add (hb j)

/-- The mean of the squares of real numbers plus ε is a real number over zero. -/
theorem meanSquare_pos {h : Fin 2048 → EReal} (hh : ∀ j, IsReal (h j)) :
    IsReal (meanSquare h + k 0x3727C5AC#32) ∧ 0 < meanSquare h + k 0x3727C5AC#32 := by
  choose r hr using hh
  have hn : k 0x45000000#32 = ((2048 : ℝ) : EReal) := by
    simp [k, Ideal.ofBits, Ideal.ieee, -EReal.coe_mul]; norm_num
  have he : ∃ e : ℝ, 0 < e ∧ k 0x3727C5AC#32 = (e : EReal) := by
    refine ⟨_, ?_, by simp only [k, Ideal.ofBits, Ideal.ieee]; rw [if_neg (by decide), if_neg (by decide)]⟩
    rw [if_neg (by decide)]
    positivity
  obtain ⟨e, he0, he⟩ := he
  have hs : (∑ i, h i * h i) = ((∑ i, r i * r i : ℝ) : EReal) := by
    simp only [hr, ← EReal.coe_mul]
    exact (coe_sum _).symm
  have hm : meanSquare h + k 0x3727C5AC#32 = (((∑ i, r i * r i) * (2048 : ℝ)⁻¹ + e : ℝ) : EReal) := by
    unfold meanSquare Ideal.div
    rw [show Ideal.ofBits .f32 0x45000000#32 = _ from hn, if_neg (by norm_num), hs, he, ← EReal.coe_inv, ← EReal.coe_mul, ← EReal.coe_add]
  refine ⟨⟨_, hm⟩, ?_⟩
  rw [hm]
  refine EReal.coe_pos.mpr ?_
  have : 0 ≤ ∑ i, r i * r i := Finset.sum_nonneg fun i _ => mul_self_nonneg _
  positivity

/-- A square is not negative. -/
theorem square_nonneg (x : EReal) : 0 ≤ x * x := by
  induction x with
  | bot => simp
  | top => simp
  | coe r => exact_mod_cast mul_self_nonneg r

/-- The square of an infinity. -/
theorem square_top {x : EReal} (h : ¬ IsReal x) : x * x = ⊤ := by
  induction x with
  | bot => simp
  | top => simp
  | coe r => exact absurd ⟨r, rfl⟩ h

/-- A row with an infinity has the mean square +∞. -/
theorem meanSquare_top {h : Fin 2048 → EReal} {j : Fin 2048} (hj : ¬ IsReal (h j)) : meanSquare h + k 0x3727C5AC#32 = ⊤ := by
  have hs : (∑ i, h i * h i) = ⊤ := by
    refine top_le_iff.mp ?_
    rw [← square_top hj]
    exact Finset.single_le_sum (f := fun i => h i * h i) (fun i _ => square_nonneg _) (Finset.mem_univ j)
  have hn : Ideal.ofBits .f32 0x45000000#32 = ((2048 : ℝ) : EReal) := by
    simp [Ideal.ofBits, Ideal.ieee, -EReal.coe_mul]; norm_num
  obtain ⟨e, he⟩ := isReal_k 0x3727C5AC#32
  have hd : Ideal.div ⊤ ((2048 : ℝ) : EReal) = ⊤ := by
    unfold Ideal.div
    rw [if_neg (by norm_num), ← EReal.coe_inv]
    exact EReal.top_mul_coe_of_pos (by norm_num)
  unfold meanSquare
  rw [hs, hn, hd, he]
  exact EReal.top_add_coe e

/-- The normalized row is of real numbers, whatever the row: one with an infinity is made zero. -/
theorem isReal_scaled {h w : Fin 2048 → EReal} (hw : ∀ j, IsReal (w j)) (j : Fin 2048) : IsReal (scaled h (meanSquare h) w j) := by
  by_cases hh : ∀ j, IsReal (h j)
  · exact ((hh j).mul ((meanSquare_pos hh).1.rsqrt (meanSquare_pos hh).2)).mul (hw j)
  · obtain ⟨i, hi⟩ := not_forall.mp hh
    have h0 : scaled h (meanSquare h) w j = 0 := by
      unfold scaled
      rw [meanSquare_top hi, show Ideal.rsqrt ⊤ = 0 from rfl, mul_zero, zero_mul]
    rw [h0]
    exact ⟨0, rfl⟩

theorem isReal_top {n : Nat} {l : Fin (n + 1) → EReal} (hl : ∀ i, IsReal (l i)) : IsReal (top l) := by
  have : ∃ i, top l = l i := by
    obtain ⟨i, -, hi⟩ := Finset.exists_mem_eq_sup' (s := (Finset.univ : Finset (Fin (n + 1)))) Finset.univ_nonempty l
    refine ⟨i, ?_⟩
    rw [← hi, Finset.sup'_eq_sup]
    rfl
  obtain ⟨i, hi⟩ := this
  rw [hi]; exact hl i

theorem isReal_soft {n : Nat} {l : Fin (n + 1) → EReal} (hl : ∀ i, IsReal (l i)) (e : Fin (n + 1)) : IsReal (soft l e) := by
  have hx : ∀ i, IsReal (l i - top l) := fun i => (hl i).sub (isReal_top hl)
  choose r hr using hx
  have hs : (∑ i, Ideal.exp (l i - top l)) = ((∑ i, Real.exp (r i) : ℝ) : EReal) := by
    simp only [hr, Ideal.exp_coe]
    exact (coe_sum _).symm
  have hp : 0 < ∑ i, Real.exp (r i) := Finset.sum_pos (fun i _ => Real.exp_pos _) Finset.univ_nonempty
  unfold soft
  rw [hs, hr]
  exact (IsReal.coe _).exp.div (IsReal.coe _) (by exact_mod_cast hp.ne')

/-- Two activations that agree on real numbers, with real values there, give a row the same probabilities, which are real numbers. -/
theorem probs_congr {g g' : EReal → EReal} (hg : ∀ x, IsReal x → g x = g' x) (hr : ∀ x, IsReal x → IsReal (g x)) {w : Vec 2048}
    {W1 : Mat 2048 2048} {b1 : Vec 2048} {W2 : Mat 2048 2048} {b2 : Vec 2048} {W3 : Mat 2048 64} {h : Fin 2048 → EReal}
    (hw : ∀ i, IsReal (w i)) (hW1 : ∀ i, IsReal (W1 i)) (hb1 : ∀ i, IsReal (b1 i)) (hW2 : ∀ i, IsReal (W2 i)) (hb2 : ∀ i, IsReal (b2 i))
    (hW3 : ∀ i, IsReal (W3 i)) :
    probs g w W1 b1 W2 b2 W3 h = probs g' w W1 b1 W2 b2 W3 h ∧ ∀ e, IsReal (probs g w W1 b1 W2 b2 W3 h e) := by
  have h1 : ∀ j, IsReal (affine (scaled h (meanSquare h) fun j => w (ix1 j)) (fun i j => W1 (ix2 i j)) (fun j => b1 (ix1 j)) j) :=
    isReal_affine (isReal_scaled fun j => hw _) (fun i j => hW1 _) fun j => hb1 _
  have h2 : ∀ j, IsReal (affine (fun j => g (affine (scaled h (meanSquare h) fun j => w (ix1 j)) (fun i j => W1 (ix2 i j))
      (fun j => b1 (ix1 j)) j)) (fun i j => W2 (ix2 i j)) (fun j => b2 (ix1 j)) j) :=
    isReal_affine (fun j => hr _ (h1 j)) (fun i j => hW2 _) fun j => hb2 _
  constructor
  · unfold probs gates scores
    simp only [← hg _ (h1 _), ← hg _ (h2 _)]
  · intro e
    exact isReal_soft (n := 63) (isReal_linear (fun j => hr _ (h2 j)) fun i j => hW3 _) e

end Cert.Router
end
-- ==== Proof.Block.lean ====
/- The router's block of 256 rows as vector functions at `Ideal`: a layer, the softmax with its sum folded by halves, and
   one round of the selection; each is what the kernel's body computes of the values it has loaded. -/
module

public import Idealize.ShloMosaic.PureOps
public import Idealize.ShloMosaic.PureOps.Ideal
public import Idealize.ShloMosaic.Lib.Pointwise
public import proofs.«01_k».proof.Proof.TopK
public import proofs.«01_k».proof.Proof.Row

@[expose] public section

set_option maxRecDepth 16384

noncomputable section

namespace Cert.Router

open Idealize.ShloMosaic

/-- Vectors of extended reals and of words with `a` rows and `b` columns. -/
abbrev FV (a b : Nat) := FVec Ideal ⟨2, ![a, b]⟩ .f32
abbrev IV (a b : Nat) (w : Nat) := IVec ⟨2, ![a, b]⟩ w

theorem castCol : (⟨1, ![256]⟩ : Shape).ShapeCasts ⟨2, ![256, 1]⟩ := by decide
theorem redRow : (⟨2, ![256, 64]⟩ : Shape).Reduces [1] ⟨1, ![256]⟩ := by decide
theorem bcCol64 : (⟨2, ![256, 1]⟩ : Shape).Broadcasts ⟨2, ![256, 64]⟩ := by decide
theorem bcCol2048 : (⟨2, ![256, 1]⟩ : Shape).Broadcasts ⟨2, ![256, 2048]⟩ := by decide
theorem bcRow64 : (⟨2, ![1, 64]⟩ : Shape).Broadcasts ⟨2, ![256, 64]⟩ := by decide
theorem bcRow2048 : (⟨2, ![1, 2048]⟩ : Shape).Broadcasts ⟨2, ![256, 2048]⟩ := by decide
theorem iotaRow : (⟨2, ![256, 64]⟩ : Shape).Iotas .tc 32 [1] := by decide

/-! ## The selection -/

/-- The column numbers of a block of 64 columns. -/
def cols : IV 256 64 32 := iota .tc _ 32 [1] iotaRow

/-- A row's maximum, in every column of the row. -/
def rowMax (w : FV 256 64) : FV 256 64 :=
  broadcastTo _ (shapeCast ⟨2, ![256, 1]⟩ (multiReduction .maximumf [1] ⟨1, ![256]⟩ w 0xFF800000#32 redRow (.inl rfl) rfl) castCol) bcCol64

/-- The least column at which a row has its maximum. -/
def pick (w : FV 256 64) : IV 256 1 32 :=
  shapeCast ⟨2, ![256, 1]⟩ (multiReductionI .minsi [1] ⟨1, ![256]⟩
    (select (cmpf .oeq w (rowMax w)) cols (broadcast ⟨2, ![256, 64]⟩ 64#32)) 2147483647#32 redRow rfl) castCol

/-- Where that column is. -/
def hit (w : FV 256 64) : IV 256 64 1 := cmpi .eq cols (broadcastTo _ (pick w) bcCol64)

/-- A block's element at the picked column of each row. -/
def pickVal (p w : FV 256 64) : FV 256 1 :=
  shapeCast ⟨2, ![256, 1]⟩ (multiReduction .add [1] ⟨1, ![256]⟩
    (select (hit w) p (broadcast ⟨2, ![256, 64]⟩ (Scalar.ofBits .f32 0x00000000#32))) 0x00000000#32 redRow (.inl rfl) rfl) castCol

/-- The rows with the picked elements overwritten by −∞. -/
def next (w : FV 256 64) : FV 256 64 :=
  select (hit w) (broadcast ⟨2, ![256, 64]⟩ (Scalar.ofBits .f32 0xFF800000#32)) w

/-- The pattern of −∞ denotes `⊥`. -/
theorem ofBits_negInf : Ideal.ofBits .f32 0xFF800000#32 = ⊥ := by
  rfl

/-- Entry `t` of a row comes before every other entry. -/
def IsTop {n : Nat} (w : Fin n → EReal) (t : Fin n) : Prop := ∀ j, j ≠ t → Before w t j

theorem fold_max_eq_of_top {n : Nat} {w : Fin n → EReal} {t : Fin n} (ht : IsTop w t) :
    (Finset.univ.fold max ⊥ fun k => w k) = w t := by
  have hle : ∀ j, w j ≤ w t := fun j => by
    by_cases hj : j = t
    · rw [hj]
    · rcases ht j hj with h | ⟨h, -⟩
      · exact h.le
      · exact h.symm.le
  refine le_antisymm ?_ ?_
  · exact (Finset.fold_max_le _).mpr ⟨bot_le, fun j _ => hle j⟩
  · exact (Finset.le_fold_max _).mpr (Or.inr ⟨t, Finset.mem_univ t, le_rfl⟩)

theorem toInt_le_fold_minsi {n : Nat} (f : Fin n → BitVec 32) (a : BitVec 32) (h0 : a.toInt ≤ (2147483647#32).toInt)
    (s : Finset (Fin n)) (h : ∀ j ∈ s, a.toInt ≤ (f j).toInt) : a.toInt ≤ (s.fold IntOp.minsi 2147483647#32 f).toInt := by
  classical
  induction s using Finset.induction_on with
  | empty => simpa using h0
  | insert j s hj ih =>
    rw [Finset.fold_insert hj]
    unfold IntOp.minsi
    split
    · exact h j (Finset.mem_insert_self j s)
    · exact ih fun i hi => h i (Finset.mem_insert_of_mem hi)

/-- The least of the words that are a column's number where the row has its maximum and 64 elsewhere. -/
theorem fold_minsi_eq {f : Fin 64 → BitVec 32} {t : Fin 64} (ht : f t = BitVec.ofNat 32 t)
    (h : ∀ j, f j = 64#32 ∨ (f j = BitVec.ofNat 32 j ∧ t ≤ j)) :
    Finset.univ.fold IntOp.minsi 2147483647#32 f = BitVec.ofNat 32 t := by
  classical
  have hi : ∀ j : Fin 64, (BitVec.ofNat 32 j.val).toInt = j.val := by decide
  have hle : ∀ j, (BitVec.ofNat 32 t.val).toInt ≤ (f j).toInt := by
    intro j
    rcases h j with h | ⟨h, hj⟩
    · rw [h, hi t]; exact (by have := t.isLt; rw [show (64#32 : BitVec 32).toInt = 64 from by decide]; omega)
    · rw [h, hi t, hi j]; exact_mod_cast hj
  rw [← Finset.insert_erase (Finset.mem_univ t), Finset.fold_insert (Finset.notMem_erase t _)]
  have hr := toInt_le_fold_minsi f (BitVec.ofNat 32 t) (by rw [hi t, show (2147483647#32 : BitVec 32).toInt = 2147483647 from by decide]; have := t.isLt; omega)
    (Finset.univ.erase t) fun j _ => hle j
  rw [ht]
  unfold IntOp.minsi
  split
  · rfl
  · rename_i hs
    rw [BitVec.slt_iff_toInt_lt] at hs
    exact BitVec.eq_of_toInt_eq (le_antisymm (not_lt.mp hs) hr)

theorem rowMax_apply (w : FV 256 64) (q : Fin 256) (e : Fin 64) :
    rowMax w (ix2 q e) = Finset.univ.fold max ⊥ fun k : Fin 64 => w (ix2 q k) := by
  pointwise [rowMax]
  rw [ofBits_negInf]

theorem pick_apply (w : FV 256 64) (q : Fin 256) (e : Fin 1) {t : Fin 64} (ht : IsTop (fun k => w (ix2 q k)) t) :
    pick w (ix2 q e) = BitVec.ofNat 32 t := by
  pointwise [pick, cols]
  refine fold_minsi_eq (t := t) ?_ fun j => ?_
  · rw [rowMax_apply, fold_max_eq_of_top ht, if_pos rfl]
  · rw [rowMax_apply, fold_max_eq_of_top ht]
    by_cases hj : w (ix2 q j) = w (ix2 q t)
    · refine Or.inr ⟨if_pos hj, ?_⟩
      by_contra hlt
      have hne : j ≠ t := fun h => hlt (le_of_eq h.symm)
      rcases ht j hne with h | ⟨-, h⟩
      · exact absurd hj (ne_of_lt h)
      · exact hlt h.le
    · exact Or.inl (if_neg hj)

theorem cmpi_ofNat (e t : Fin 64) : IntOp.cmpi CmpIPredicate.eq (BitVec.ofNat 32 e) (BitVec.ofNat 32 t)
    = if e = t then 1#1 else 0#1 := by
  revert e t; decide +kernel

theorem pickVal_apply (p w : FV 256 64) (q : Fin 256) (e : Fin 1) {t : Fin 64} (ht : IsTop (fun k => w (ix2 q k)) t) :
    pickVal p w (ix2 q e) = p (ix2 q t) := by
  pointwise [pickVal, hit, cols]
  rw [pick_apply w q 0 ht]
  simp only [cmpi_ofNat]
  rw [Finset.sum_eq_single t]
  · rw [if_pos rfl]; rfl
  · intro j _ hj; rw [if_neg hj]; rfl
  · intro h; exact absurd (Finset.mem_univ t) h

theorem next_apply (w : FV 256 64) (q : Fin 256) (e : Fin 64) {t : Fin 64} (ht : IsTop (fun k => w (ix2 q k)) t) :
    next w (ix2 q e) = if e = t then ⊥ else w (ix2 q e) := by
  pointwise [next, hit, cols]
  rw [pick_apply w q 0 ht, cmpi_ofNat, ofBits_negInf]
  split <;> rfl

/-- The rows after `k` rounds. -/
def left (w : FV 256 64) : Nat → FV 256 64
  | 0 => w
  | k + 1 => next (left w k)

variable {w : FV 256 64} {q : Fin 256}

theorem isTop_masked {v : Fin 64 → EReal} (hv : ∀ i, v i ≠ ⊥) (k : Fin 64) : IsTop (masked v k) (nth v k) := by
  intro j hj
  have hp := place_nth v k
  have hne : place v j ≠ k := fun h => hj (place_injective v (h.trans hp.symm))
  have hm : masked v k (nth v k) = v (nth v k) := by unfold masked; rw [if_neg (by omega)]
  by_cases h : place v j < k
  · refine Or.inl ?_
    rw [hm]; unfold masked; rw [if_pos h]
    exact bot_lt_iff_ne_bot.mpr (hv _)
  · have hb : Before v (nth v k) j := place_lt_iff.mp (by omega)
    have hm' : masked v k j = v j := by unfold masked; rw [if_neg h]
    unfold Before at hb ⊢
    rw [hm, hm']; exact hb

/-- After `k` rounds a row holds −∞ at its first `k` entries and is unchanged elsewhere. -/
theorem left_apply (hv : ∀ i, w (ix2 q i) ≠ ⊥) (k : Nat) (hk : k < 64) (e : Fin 64) :
    left w k (ix2 q e) = masked (fun i => w (ix2 q i)) k e := by
  induction k generalizing e with
  | zero => unfold left masked; rw [if_neg (by omega)]
  | succ k ih =>
    have ih' := fun e => ih (by omega) e
    have ht : IsTop (fun i => left w k (ix2 q i)) (nth (fun i => w (ix2 q i)) ⟨k, by omega⟩) := by
      rw [show (fun i => left w k (ix2 q i)) = masked (fun i => w (ix2 q i)) k from funext ih']
      exact isTop_masked hv ⟨k, by omega⟩
    show next (left w k) (ix2 q e) = _
    rw [next_apply _ _ _ ht, ih']
    exact masked_succ (place_nth _ ⟨k, by omega⟩) e

theorem isTop_left (hv : ∀ i, w (ix2 q i) ≠ ⊥) (k : Fin 64) :
    IsTop (fun i => left w k (ix2 q i)) (nth (fun i => w (ix2 q i)) k) := by
  rw [show (fun i => left w k (ix2 q i)) = masked (fun i => w (ix2 q i)) k from funext (left_apply hv k k.isLt)]
  exact isTop_masked hv k

/-- Round `k` picks the entry at place `k`. -/
theorem pick_left (hv : ∀ i, w (ix2 q i) ≠ ⊥) (k : Fin 64) (e : Fin 1) :
    pick (left w k) (ix2 q e) = BitVec.ofNat 32 (nth (fun i => w (ix2 q i)) k) :=
  pick_apply _ q e (isTop_left hv k)

/-- … and reads the other block there. -/
theorem pickVal_left (p : FV 256 64) (hv : ∀ i, w (ix2 q i) ≠ ⊥) (k : Fin 64) (e : Fin 1) :
    pickVal p (left w k) (ix2 q e) = p (ix2 q (nth (fun i => w (ix2 q i)) k)) :=
  pickVal_apply p _ q e (isTop_left hv k)

theorem concat8 : Shape.Concatenates [(⟨2, ![256, 1]⟩ : Shape), ⟨2, ![256, 1]⟩, ⟨2, ![256, 1]⟩, ⟨2, ![256, 1]⟩,
    ⟨2, ![256, 1]⟩, ⟨2, ![256, 1]⟩, ⟨2, ![256, 1]⟩, ⟨2, ![256, 1]⟩] ⟨2, ![256, 8]⟩ 1 := by decide

/-- Eight columns side by side. -/
def beside {α : Type} (c : Fin 8 → (⟨2, ![256, 1]⟩ : Shape).Idx → α) : (⟨2, ![256, 8]⟩ : Shape).Idx → α :=
  concatenate _ 1 [⟨⟨2, ![256, 1]⟩, c 0⟩, ⟨⟨2, ![256, 1]⟩, c 1⟩, ⟨⟨2, ![256, 1]⟩, c 2⟩, ⟨⟨2, ![256, 1]⟩, c 3⟩,
    ⟨⟨2, ![256, 1]⟩, c 4⟩, ⟨⟨2, ![256, 1]⟩, c 5⟩, ⟨⟨2, ![256, 1]⟩, c 6⟩, ⟨⟨2, ![256, 1]⟩, c 7⟩] concat8

theorem beside_apply {α : Type} (c : Fin 8 → (⟨2, ![256, 1]⟩ : Shape).Idx → α) (q : Fin 256) (k : Fin 8) :
    beside c (ix2 q k) = c k (ix2 q 0) := by
  pointwise [beside]
  fin_vals k with hk
  all_goals simp only [hk, Nat.reduceSub, Nat.reduceLT, ↓reduceDIte]
  all_goals exact congrArg (fun z : Fin 8 => c z (ix2 q 0)) (Fin.ext hk.symm)

/-! ## The layers -/

theorem sc2048 : (⟨2, ![256, 2048]⟩ : Shape).ShapeCasts ⟨2, ![256, 2048]⟩ := by decide
theorem scCol : (⟨2, ![256, 1]⟩ : Shape).ShapeCasts ⟨2, ![256, 1]⟩ := by decide
theorem scRow : (⟨2, ![1, 2048]⟩ : Shape).ShapeCasts ⟨2, ![1, 2048]⟩ := by decide
theorem scRow64 : (⟨2, ![1, 64]⟩ : Shape).ShapeCasts ⟨2, ![1, 64]⟩ := by decide

/-- The rows scaled by the reciprocal root of their mean square and by the weights. -/
def normed (x : FV 256 2048) (v : FV 256 1) (w : FV 1 2048) : FV 256 2048 :=
  mulf (mulf (shapeCast _ x sc2048)
      (broadcastTo _ (rsqrt (addf (shapeCast _ v scCol) (broadcast ⟨2, ![256, 1]⟩ (Scalar.ofBits .f32 0x3727C5AC#32)))) bcCol2048))
    (broadcastTo _ (shapeCast _ w scRow) bcRow2048)

/-- A layer: the product with a matrix, and a bias in every row. -/
def dense (x : FV 256 2048) (W : FV 2048 2048) (b : FV 1 2048) : FV 256 2048 :=
  addf (matmul (DotDims.plain 256 2048 2048) none x W (constant ⟨2, ![256, 2048]⟩ .f32 0x00000000#32))
    (broadcastTo _ (shapeCast _ b scRow) bcRow2048)

/-- The down projection of a block of rows. -/
def down (x : FV 256 4096) (W : FV 4096 2048) (b : FV 1 2048) : FV 256 2048 :=
  addf (matmul (DotDims.plain 256 4096 2048) none x W (constant ⟨2, ![256, 2048]⟩ .f32 0x00000000#32))
    (broadcastTo _ (shapeCast _ b scRow) bcRow2048)

/-- The last layer, which has no bias. -/
def logits (x : FV 256 2048) (W : FV 2048 64) : FV 256 64 :=
  matmul (DotDims.plain 256 2048 64) none x W (constant ⟨2, ![256, 64]⟩ .f32 0x00000000#32)

/-- Half the columns: the left half plus the right half. -/
def half32 (x : FV 256 64) : FV 256 32 :=
  addf (extractStridedSlice _ ![0, 0] x (by decide)) (extractStridedSlice _ ![0, 32] x (by decide))
def half16 (x : FV 256 32) : FV 256 16 :=
  addf (extractStridedSlice _ ![0, 0] x (by decide)) (extractStridedSlice _ ![0, 16] x (by decide))
def half8 (x : FV 256 16) : FV 256 8 :=
  addf (extractStridedSlice _ ![0, 0] x (by decide)) (extractStridedSlice _ ![0, 8] x (by decide))
def half4 (x : FV 256 8) : FV 256 4 :=
  addf (extractStridedSlice _ ![0, 0] x (by decide)) (extractStridedSlice _ ![0, 4] x (by decide))
def half2 (x : FV 256 4) : FV 256 2 :=
  addf (extractStridedSlice _ ![0, 0] x (by decide)) (extractStridedSlice _ ![0, 2] x (by decide))
def half1 (x : FV 256 2) : FV 256 1 :=
  addf (extractStridedSlice _ ![0, 0] x (by decide)) (extractStridedSlice _ ![0, 1] x (by decide))

/-- The sum of a row of 64, the halves added until one column is left. -/
def foldHalves (x : FV 256 64) : FV 256 1 := half1 (half2 (half4 (half8 (half16 (half32 x)))))

/-- Adding the halves keeps a row's sum. -/
theorem sum_halves {n : Nat} (q : Fin 256) (x : FV 256 (n + n)) (y : FV 256 n)
    (h : ∀ i : Fin n, y (ix2 q i) = x (ix2 q (Fin.castAdd n i)) + x (ix2 q (Fin.natAdd n i))) :
    ∑ i, y (ix2 q i) = ∑ i, x (ix2 q i) := by
  rw [Fin.sum_univ_add, ← Finset.sum_add_distrib]
  exact Finset.sum_congr rfl fun i _ => h i

/-- The exponentials of a row less its maximum. -/
def exps (l : FV 256 64) : FV 256 64 := exp (subf l (rowMax l))

/-- The softmax of a block's rows. -/
def softmax (l : FV 256 64) : FV 256 64 := divf (exps l) (broadcastTo _ (foldHalves (exps l)) bcCol64)

/-- The rows the selection runs over: the softmax and the experts' biases. -/
def biased (p : FV 256 64) (b : FV 1 64) : FV 256 64 := addf p (broadcastTo _ (shapeCast _ b scRow64) bcRow64)

theorem normed_apply (x : FV 256 2048) (v : FV 256 1) (w : FV 1 2048) (q : Fin 256) (j : Fin 2048) :
    normed x v w (ix2 q j) = x (ix2 q j) * Ideal.rsqrt (v (ix2 q 0) + Ideal.ofBits .f32 0x3727C5AC#32) * w (ix2 0 j) := by
  pointwise [normed]

theorem dense_apply (x : FV 256 2048) (W : FV 2048 2048) (b : FV 1 2048) (q : Fin 256) (j : Fin 2048) :
    dense x W b (ix2 q j) = (∑ i, x (ix2 q i) * W (ix2 i j)) + b (ix2 0 j) := by
  pointwise [dense]

theorem down_apply (x : FV 256 4096) (W : FV 4096 2048) (b : FV 1 2048) (q : Fin 256) (j : Fin 2048) :
    down x W b (ix2 q j) = (∑ i, x (ix2 q i) * W (ix2 i j)) + b (ix2 0 j) := by
  pointwise [down]

theorem logits_apply (x : FV 256 2048) (W : FV 2048 64) (q : Fin 256) (e : Fin 64) :
    logits x W (ix2 q e) = ∑ i, x (ix2 q i) * W (ix2 i e) := by
  pointwise [logits]

theorem half32_sum (x : FV 256 64) (q : Fin 256) : ∑ i, half32 x (ix2 q i) = ∑ i, x (ix2 q i) :=
  sum_halves (n := 32) q x (half32 x) fun i => by
    pointwise [half32]
    rfl
theorem half16_sum (x : FV 256 32) (q : Fin 256) : ∑ i, half16 x (ix2 q i) = ∑ i, x (ix2 q i) :=
  sum_halves (n := 16) q x (half16 x) fun i => by
    pointwise [half16]
    rfl
theorem half8_sum (x : FV 256 16) (q : Fin 256) : ∑ i, half8 x (ix2 q i) = ∑ i, x (ix2 q i) :=
  sum_halves (n := 8) q x (half8 x) fun i => by
    pointwise [half8]
    rfl
theorem half4_sum (x : FV 256 8) (q : Fin 256) : ∑ i, half4 x (ix2 q i) = ∑ i, x (ix2 q i) :=
  sum_halves (n := 4) q x (half4 x) fun i => by
    pointwise [half4]
    rfl
theorem half2_sum (x : FV 256 4) (q : Fin 256) : ∑ i, half2 x (ix2 q i) = ∑ i, x (ix2 q i) :=
  sum_halves (n := 2) q x (half2 x) fun i => by
    pointwise [half2]
    rfl
theorem half1_apply (x : FV 256 2) (q : Fin 256) (e : Fin 1) : half1 x (ix2 q e) = ∑ i, x (ix2 q i) := by
  rw [Fin.sum_univ_two]
  pointwise [half1]

theorem foldHalves_apply (x : FV 256 64) (q : Fin 256) (e : Fin 1) :
    foldHalves x (ix2 q e) = ∑ i, x (ix2 q i) := by
  unfold foldHalves
  rw [half1_apply, half2_sum, half4_sum, half8_sum, half16_sum, half32_sum]

theorem exps_apply (l : FV 256 64) (q : Fin 256) (e : Fin 64) :
    exps l (ix2 q e) = Ideal.exp (l (ix2 q e) - Finset.univ.fold max ⊥ fun k : Fin 64 => l (ix2 q k)) := by
  pointwise [exps]
  rw [rowMax_apply]

theorem softmax_apply (l : FV 256 64) (q : Fin 256) (e : Fin 64) :
    softmax l (ix2 q e) = Ideal.div (Ideal.exp (l (ix2 q e) - Finset.univ.fold max ⊥ fun k : Fin 64 => l (ix2 q k)))
      (∑ i : Fin 64, Ideal.exp (l (ix2 q i) - Finset.univ.fold max ⊥ fun k : Fin 64 => l (ix2 q k))) := by
  pointwise [softmax]
  rw [foldHalves_apply]
  simp only [exps_apply]

theorem biased_apply (p : FV 256 64) (b : FV 1 64) (q : Fin 256) (e : Fin 64) :
    biased p b (ix2 q e) = p (ix2 q e) + b (ix2 0 e) := by
  pointwise [biased]

/-! ## The block's results -/

/-- An elementwise function of a block. -/
def act (g : EReal → EReal) (x : FV 256 2048) : FV 256 2048 := fun i => g (x i)

/-- The probabilities of a block of rows. -/
def routed (g : EReal → EReal) (x : FV 256 2048) (v : FV 256 1) (w : FV 1 2048) (W1 : FV 2048 2048) (b1 : FV 1 2048)
    (W2 : FV 2048 2048) (b2 : FV 1 2048) (W3 : FV 2048 64) : FV 256 64 :=
  softmax (logits (act g (dense (act g (dense (normed x v w) W1 b1)) W2 b2)) W3)

theorem routed_apply (g : EReal → EReal) (x : FV 256 2048) (v : FV 256 1) (w : FV 1 2048) (W1 : FV 2048 2048) (b1 : FV 1 2048)
    (W2 : FV 2048 2048) (b2 : FV 1 2048) (W3 : FV 2048 64) (q : Fin 256) (e : Fin 64) :
    routed g x v w W1 b1 W2 b2 W3 (ix2 q e)
      = gates g (fun j => x (ix2 q j)) (v (ix2 q 0)) (fun j => w (ix2 0 j)) (fun i j => W1 (ix2 i j)) (fun j => b1 (ix2 0 j))
        (fun i j => W2 (ix2 i j)) (fun j => b2 (ix2 0 j)) (fun i j => W3 (ix2 i j)) e := by
  unfold routed gates soft top
  rw [softmax_apply]
  have hl : ∀ k, logits (act g (dense (act g (dense (normed x v w) W1 b1)) W2 b2)) W3 (ix2 q k)
      = scores g (fun j => x (ix2 q j)) (v (ix2 q 0)) (fun j => w (ix2 0 j)) (fun i j => W1 (ix2 i j)) (fun j => b1 (ix2 0 j))
        (fun i j => W2 (ix2 i j)) (fun j => b2 (ix2 0 j)) (fun i j => W3 (ix2 i j)) k := by
    intro k
    unfold scores affine linear scaled act
    simp only [logits_apply, dense_apply, normed_apply]
  simp only [hl]

/-- The probabilities the eight rounds read, side by side. -/
def outP (p : FV 256 64) (b : FV 1 64) : FV 256 8 := beside fun k => pickVal p (left (biased p b) k)

/-- The experts the eight rounds pick, side by side. -/
def outI (p : FV 256 64) (b : FV 1 64) : IV 256 8 32 := beside fun k => pick (left (biased p b) k)

theorem outP_apply (p : FV 256 64) (b : FV 1 64) (q : Fin 256) (k : Fin 8) (h : ∀ e, p (ix2 q e) + b (ix2 0 e) ≠ ⊥) :
    outP p b (ix2 q k) = p (ix2 q (expert (fun e => p (ix2 q e)) (fun e => b (ix2 0 e)) k)) := by
  have := pickVal_left p (w := biased p b) (q := q) (by simpa only [biased_apply] using h) (k.castLE (by decide)) 0
  simp only [biased_apply] at this
  exact (beside_apply _ q k).trans this

theorem outI_apply (p : FV 256 64) (b : FV 1 64) (q : Fin 256) (k : Fin 8) (h : ∀ e, p (ix2 q e) + b (ix2 0 e) ≠ ⊥) :
    outI p b (ix2 q k) = BitVec.ofNat 32 (expert (fun e => p (ix2 q e)) (fun e => b (ix2 0 e)) k) := by
  have := pick_left (w := biased p b) (q := q) (by simpa only [biased_apply] using h) (k.castLE (by decide)) 0
  simp only [biased_apply] at this
  exact (beside_apply _ q k).trans this

end Cert.Router
end
-- ==== Proof.KernelOut.lean ====
/- What the body of the kernel leaves in its output windows' buffers, as the router's block functions. -/
module

public import proofs.«01_k».proof.Proof.Block
public import proofs.«01_k».proof.Proof.Gen.KernelIdeal.Frame

@[expose] public section

set_option maxRecDepth 16384

noncomputable section

namespace Cert.KernelIdeal.Out

open Idealize.ShloMosaic Cert.Router Cert.KernelIdeal Cert.KernelIdeal.Gen

/-- A float's value. -/
abbrev k (w : BitVec 32) : EReal := Ideal.ofBits .f32 w

/-- Near zero, from `u` and `s = u * u`: one minus `u` times a polynomial in `s`. -/
def near (u s : EReal) : EReal :=
  k 0x3F800000#32 - u * ((((((k 0x38A4B519#32 * s + k 0xBA51FB80#32) * s + k 0x3BAA02D9#32) * s + k 0xBCDBFC87#32) * s
    + k 0x3DE7167C#32) * s + k 0xBEC0939F#32) * s + k 0x3F906EBA#32)

/-- The polynomial of the middle range. -/
def mid (t : EReal) : EReal :=
  (((((((t * k 0x3CBE9CF4#32 + k 0xBE0E0868#32) * t + k 0x3EBCCBD0#32) * t + k 0xBF151CF8#32) * t + k 0x3F1EF9E3#32) * t
    + k 0xBEFD28C0#32) * t + k 0x3EAE5471#32) * t + k 0xBE8C5880#32) * t + k 0x3F1056E6#32

/-- The polynomial of the outer range. -/
def outer (t : EReal) : EReal :=
  ((((((t * k 0xC127A483#32 + k 0x414FA29C#32) * t + k 0xC0EFDB4A#32) * t + k 0x403AF1FA#32) * t + k 0xBF81F436#32) * t
    + k 0x3ED7FC3E#32) * t + k 0xBE906C5D#32) * t + k 0x3F106EB9#32

/-- Away from zero, before underflow and sign: `e` is the factor before the polynomial, `a` the absolute value, `t` the
    polynomial's argument. -/
def tail (e a t : EReal) : EReal := e * Scalar.select (Ideal.cmp .olt a (k 0x40000000#32)) (mid t) (outer t)

/-- The value from the tail `w`, with `z = -s`. -/
def merge (u a z n w : EReal) : EReal :=
  let v := Scalar.select (Ideal.cmp .olt z (k 0xC2B17218#32)) (k 0x00000000#32) w
  Scalar.select (Ideal.cmp .olt a (k 0x3F800000#32)) n
    (Scalar.select (Ideal.cmp .olt u (k 0x00000000#32)) (k 0x40000000#32 - v) v)

/-- The complementary error function as the kernel approximates it. -/
def erfc (u : EReal) : EReal :=
  merge u (max u (-u)) (k 0x00000000#32 - u * u) (near u (u * u))
    (tail (Ideal.exp (k 0x00000000#32 - u * u) * Ideal.div (k 0x3F800000#32) (max u (-u))) (max u (-u))
      (Ideal.div (k 0x3F800000#32) (u * u)))

/-- The kernel's activation. -/
def gelu (x : EReal) : EReal := x * k 0x3F000000#32 * erfc ((k 0x00000000#32 - x) * k 0x3F3504F3#32)

theorem hz : (![0, 0] : Fin 2 → Nat) = fun _ => 0 := funext fun a => by fin_cases a <;> rfl

theorem out0_eq (x0 : FV 256 4096) (x1 : FV 4096 2048) (x2 : FV 1 2048) :
    out0_3 (F := Ideal) x0 x1 x2 = down x0 x1 x2 := by
  unfold out0_3
  rw [View.canon_unit_zero hz, View.ld_unit_zero hz, View.ld_unit_zero hz, View.ld_unit_zero hz]
  rfl

/-- The activation's argument scaled, over a block. -/
def scaledArg (x : FV 256 2048) : FV 256 2048 :=
  mulf (subf (broadcast _ (Scalar.ofBits .f32 0x00000000#32)) x) (broadcast _ (Scalar.ofBits .f32 0x3F3504F3#32))

/-- The second layer's product over the activation's parts. -/
theorem pay13 (x u a n z e t p r q : FV 256 2048) (W : FV 2048 2048) :
    k1_pay13 (F := Ideal) x u a n z e t p r q W =
      matmul dot_S256x2048_S2048x2048_S256x2048_1_0_0_1_n_n none (fun i => x i * k 0x3F000000#32 *
        merge (u i) (a i) (z i) (n i) (e i * Scalar.select (Ideal.cmp .olt (a i) (k 0x40000000#32)) (p i)
          (((((((r i + q i) * t i + k 0xC0EFDB4A#32) * t i + k 0x403AF1FA#32) * t i + k 0xBF81F436#32) * t i
            + k 0x3ED7FC3E#32) * t i + k 0xBE906C5D#32) * t i + k 0x3F106EB9#32)) : FV 256 2048) W
        (constant S256x2048 .f32 0x00000000#32) := by
  unfold k1_pay13
  rfl

theorem near_eq (x0 : FV 256 2048) (x1 : FV 256 1) (x2 : FV 1 2048) (x3 : FV 2048 2048) (x4 : FV 1 2048) :
    k1_pay6 (F := Ideal) (k1_pay2 x0 x1 x2 x3 x4) (k1_pay3 x0 x1 x2 x3 x4) (k1_pay5 x0 x1 x2 x3 x4)
      (Scalar.ofBits .f32 0xBEC0939F#32) = fun i => near (k1_pay2 (F := Ideal) x0 x1 x2 x3 x4 i) (k1_pay3 (F := Ideal) x0 x1 x2 x3 x4 i) := by
  unfold k1_pay5
  generalize k1_pay3 (F := Ideal) x0 x1 x2 x3 x4 = s
  generalize k1_pay2 (F := Ideal) x0 x1 x2 x3 x4 = u
  rfl

/-- The second layer before its bias, from the first layer. -/
theorem layer2 (x0 : FV 256 2048) (x1 : FV 256 1) (x2 : FV 1 2048) (x3 : FV 2048 2048) (x4 : FV 1 2048) (x5 : FV 2048 2048) :
    k1_pay13 (F := Ideal) (k1_pay1 x0 x1 x2 x3 x4) (k1_pay2 x0 x1 x2 x3 x4) (k1_pay4 x0 x1 x2 x3 x4)
      (k1_pay6 (k1_pay2 x0 x1 x2 x3 x4) (k1_pay3 x0 x1 x2 x3 x4) (k1_pay5 x0 x1 x2 x3 x4) (Scalar.ofBits .f32 0xBEC0939F#32))
      (k1_pay7 (k1_pay3 x0 x1 x2 x3 x4)) (k1_pay8 (k1_pay3 x0 x1 x2 x3 x4) (k1_pay4 x0 x1 x2 x3 x4))
      (k1_pay9 (k1_pay3 x0 x1 x2 x3 x4)) (k1_pay10 (k1_pay3 x0 x1 x2 x3 x4)) (k1_pay11 (k1_pay3 x0 x1 x2 x3 x4))
      (k1_pay12 (F := Ideal)) x5 =
    matmul dot_S256x2048_S2048x2048_S256x2048_1_0_0_1_n_n none (act gelu (dense (normed x0 x1 x2) x3 x4)) x5
      (constant S256x2048 .f32 0x00000000#32) := by
  rw [near_eq, pay13]
  have h1 : k1_pay1 (F := Ideal) x0 x1 x2 x3 x4 = dense (normed x0 x1 x2) x3 x4 := by unfold k1_pay1; rfl
  unfold k1_pay4 k1_pay3 k1_pay2
  rw [h1]
  generalize dense (normed x0 x1 x2) x3 x4 = d
  rfl

/-- The probabilities over the second activation's parts. -/
theorem pay26 (x u a n z w : FV 256 2048) (W : FV 2048 64) :
    k1_pay26 (F := Ideal) x u a n z w W =
      softmax (logits (fun i => x i * k 0x3F000000#32 * merge (u i) (a i) (z i) (n i) (w i)) W) := by
  unfold k1_pay26
  rfl

theorem near2_eq (y : FV 256 2048) (b : FV 1 2048) :
    k1_pay19 (F := Ideal) y b = fun i => near (k1_pay16 (F := Ideal) y b i) (k1_pay17 (F := Ideal) y b i) := by
  unfold k1_pay19
  generalize k1_pay17 (F := Ideal) y b = s
  generalize k1_pay16 (F := Ideal) y b = u
  rfl

theorem tail2_eq (y : FV 256 2048) (b : FV 1 2048) :
    k1_pay25 (F := Ideal) (k1_pay18 y b) (k1_pay21 y b) (k1_pay22 y b) (k1_pay23 y b) (k1_pay24 (F := Ideal)) =
      fun i => tail (k1_pay21 (F := Ideal) y b i) (k1_pay18 (F := Ideal) y b i) (k1_pay22 (F := Ideal) y b i) := by
  unfold k1_pay25 k1_pay23
  generalize k1_pay21 (F := Ideal) y b = e
  generalize k1_pay18 (F := Ideal) y b = a
  generalize k1_pay22 (F := Ideal) y b = t
  rfl

/-- The probabilities from the second layer before its bias. -/
theorem rest (y : FV 256 2048) (b : FV 1 2048) (W : FV 2048 64) :
    k1_pay26 (F := Ideal) (k1_pay15 y b) (k1_pay16 y b) (k1_pay18 y b) (k1_pay19 y b) (k1_pay20 y b)
      (k1_pay25 (k1_pay18 y b) (k1_pay21 y b) (k1_pay22 y b) (k1_pay23 y b) (k1_pay24 (F := Ideal))) W =
    softmax (logits (act gelu (k1_pay15 (F := Ideal) y b)) W) := by
  rw [pay26, near2_eq, tail2_eq]
  unfold k1_pay20 k1_pay21 k1_pay22 k1_pay18 k1_pay20 k1_pay17 k1_pay16
  generalize k1_pay15 (F := Ideal) y b = d
  rfl

variable (x0 : FV 256 2048) (x1 : FV 256 1) (x2 : FV 1 2048) (x3 : FV 2048 2048) (x4 : FV 1 2048) (x5 : FV 2048 2048)
  (x6 : FV 1 2048) (x7 : FV 2048 64) (x8 : FV 1 64)

theorem pay60 : k1_pay60 (F := Ideal) x0 x1 x2 x3 x4 x5 x6 x7 x8 =
    matmul dot_S256x2048_S2048x2048_S256x2048_1_0_0_1_n_n none (act gelu (dense (normed x0 x1 x2) x3 x4)) x5
      (constant S256x2048 .f32 0x00000000#32) := by
  unfold k1_pay60 k1_pay57 k1_pay58 k1_pay59
  repeat rw [View.ld_unit_zero hz]
  exact layer2 x0 x1 x2 x3 x4 x5

theorem pay15 : k1_pay15 (F := Ideal) (k1_pay60 x0 x1 x2 x3 x4 x5 x6 x7 x8) (k1_pay61 x0 x1 x2 x3 x4 x5 x6 x7 x8) =
    dense (act gelu (dense (normed x0 x1 x2) x3 x4)) x5 x6 := by
  rw [pay60]
  unfold k1_pay61
  rw [View.ld_unit_zero hz]
  rfl

theorem pay69 : k1_pay69 (F := Ideal) x0 x1 x2 x3 x4 x5 x6 x7 x8 = routed gelu x0 x1 x2 x3 x4 x5 x6 x7 := by
  unfold k1_pay69 k1_pay62 k1_pay63 k1_pay64 k1_pay65 k1_pay66 k1_pay67
  unfold k1_pay64
  rw [View.ld_unit_zero hz, rest, pay15]
  rfl

theorem pay70 : k1_pay70 (F := Ideal) x0 x1 x2 x3 x4 x5 x6 x7 x8 = biased (routed gelu x0 x1 x2 x3 x4 x5 x6 x7) x8 := by
  rw [← pay69 x0 x1 x2 x3 x4 x5 x6 x7 x8]
  unfold k1_pay70 k1_pay69 k1_pay27
  rw [View.ld_unit_zero hz, View.ld_unit_zero hz]
  rfl

theorem round2 (w : FV 256 64) : k1_pay35 (F := Ideal) w cols = left w 2 := rfl
theorem hit2 (w : FV 256 64) : k1_pay37 (F := Ideal) w cols = hit (left w 2) := rfl
theorem round3 (w : FV 256 64) : k1_pay40 (F := Ideal) w (hit w) = next w := rfl
theorem round5 (w : FV 256 64) : k1_pay48 (F := Ideal) cols (left w 2) (hit (left w 2)) = left w 5 := rfl
theorem pick5 (w : FV 256 64) : k1_pay49 (F := Ideal) cols (left w 2) (hit (left w 2)) = pick (left w 5) := rfl

theorem out9_eq : out1_9 (F := Ideal) x0 x1 x2 x3 x4 x5 x6 x7 x8 = outP (routed gelu x0 x1 x2 x3 x4 x5 x6 x7) x8 := by
  have h68 : k1_pay68 (F := Ideal) x0 x1 x2 x3 x4 x5 x6 x7 x8 = cols := rfl
  unfold out1_9 k1_pay73 k1_pay74 k1_pay71 k1_pay72
  rw [View.canon_unit_zero hz, h68, pay69, pay70, round2, hit2, round5, pick5]
  rfl

theorem out10_eq : out1_10 (F := Ideal) x0 x1 x2 x3 x4 x5 x6 x7 x8 = outI (routed gelu x0 x1 x2 x3 x4 x5 x6 x7) x8 := by
  have h68 : k1_pay68 (F := Ideal) x0 x1 x2 x3 x4 x5 x6 x7 x8 = cols := rfl
  unfold out1_10 k1_pay73 k1_pay74 k1_pay71 k1_pay72
  rw [View.canon_unit_zero hz, h68, pay70, round2, hit2, round5, pick5]
  rfl

end Cert.KernelIdeal.Out
end
-- ==== Proof.ErfOut.lean ====
/- What the body of the kernel with `erf` leaves in its output windows' buffers, as the router's block functions. -/
module

public import proofs.«01_k».proof.Proof.Block
public import proofs.«01_k».proof.Proof.Gen.KernelErfIdeal.Frame

@[expose] public section

set_option maxRecDepth 16384

noncomputable section

namespace Cert.KernelErfIdeal.Out

open Idealize.ShloMosaic Cert.Router Cert.KernelErfIdeal Cert.KernelErfIdeal.Gen

/-- The kernel's activation. -/
def gelu (x : EReal) : EReal :=
  x * Ideal.ofBits .f32 0x3F000000#32 * (Ideal.ofBits .f32 0x3F800000#32 + Ideal.erf (x * Ideal.ofBits .f32 0x3F3504F3#32))

theorem hz : (![0, 0] : Fin 2 → Nat) = fun _ => 0 := funext fun a => by fin_cases a <;> rfl

theorem out0_eq (x0 : FV 256 4096) (x1 : FV 4096 2048) (x2 : FV 1 2048) :
    out0_3 (F := Ideal) x0 x1 x2 = down x0 x1 x2 := by
  unfold out0_3
  rw [View.canon_unit_zero hz, View.ld_unit_zero hz, View.ld_unit_zero hz, View.ld_unit_zero hz]
  rfl

variable (x0 : FV 256 2048) (x1 : FV 256 1) (x2 : FV 1 2048) (x3 : FV 2048 2048) (x4 : FV 1 2048) (x5 : FV 2048 2048)
  (x6 : FV 1 2048) (x7 : FV 2048 64) (x8 : FV 1 64)

theorem pay37 : k1_pay37 (F := Ideal) x0 x1 x2 x3 x4 x5 x6 x7 x8 =
    mulf (dense (act gelu (dense (normed x0 x1 x2) x3 x4)) x5 x6) (broadcast _ (Scalar.ofBits .f32 0x3F000000#32)) := by
  unfold k1_pay37
  repeat rw [View.ld_unit_zero hz]
  rfl
theorem pay38 : k1_pay38 (F := Ideal) x0 x1 x2 x3 x4 x5 x6 x7 x8 =
    mulf (dense (act gelu (dense (normed x0 x1 x2) x3 x4)) x5 x6) (broadcast _ (Scalar.ofBits .f32 0x3F3504F3#32)) := by
  unfold k1_pay38
  repeat rw [View.ld_unit_zero hz]
  rfl

theorem pay40 : k1_pay40 (F := Ideal) x0 x1 x2 x3 x4 x5 x6 x7 x8 = routed gelu x0 x1 x2 x3 x4 x5 x6 x7 := by
  unfold k1_pay40
  rw [pay37, pay38, View.ld_unit_zero hz]
  rfl

theorem pay41 : k1_pay41 (F := Ideal) x0 x1 x2 x3 x4 x5 x6 x7 x8 = biased (routed gelu x0 x1 x2 x3 x4 x5 x6 x7) x8 := by
  rw [← pay40 x0 x1 x2 x3 x4 x5 x6 x7 x8]
  unfold k1_pay41 k1_pay40
  rw [View.ld_unit_zero hz, View.ld_unit_zero hz]
  rfl

theorem pay42 : k1_pay42 (F := Ideal) x0 x1 x2 x3 x4 x5 x6 x7 x8 = hit (biased (routed gelu x0 x1 x2 x3 x4 x5 x6 x7) x8) := by
  rw [← pay41 x0 x1 x2 x3 x4 x5 x6 x7 x8]
  rfl

theorem pay43 : k1_pay43 (F := Ideal) x0 x1 x2 x3 x4 x5 x6 x7 x8 = left (biased (routed gelu x0 x1 x2 x3 x4 x5 x6 x7) x8) 3 := by
  unfold k1_pay43
  rw [pay41, pay42]
  rfl

theorem pay44 : k1_pay44 (F := Ideal) x0 x1 x2 x3 x4 x5 x6 x7 x8 = pick (left (biased (routed gelu x0 x1 x2 x3 x4 x5 x6 x7) x8) 3) := by
  unfold k1_pay44
  rw [pay41, pay42]
  rfl

theorem pay45 : k1_pay45 (F := Ideal) x0 x1 x2 x3 x4 x5 x6 x7 x8 = left (biased (routed gelu x0 x1 x2 x3 x4 x5 x6 x7) x8) 6 := by
  unfold k1_pay45
  rw [pay43, pay44]
  rfl

theorem pay46 : k1_pay46 (F := Ideal) x0 x1 x2 x3 x4 x5 x6 x7 x8
    = cmpf .oeq (left (biased (routed gelu x0 x1 x2 x3 x4 x5 x6 x7) x8) 6)
        (rowMax (left (biased (routed gelu x0 x1 x2 x3 x4 x5 x6 x7) x8) 6)) := by
  unfold k1_pay46
  rw [pay43, pay44]
  rfl

theorem out9_eq : out1_9 (F := Ideal) x0 x1 x2 x3 x4 x5 x6 x7 x8 = outP (routed gelu x0 x1 x2 x3 x4 x5 x6 x7) x8 := by
  have h0 : k1_pay13 (F := Ideal) (k1_pay37 x0 x1 x2 x3 x4 x5 x6 x7 x8) (k1_pay38 x0 x1 x2 x3 x4 x5 x6 x7 x8) (View.ld x7 r1_4) (View.ld x8 r1_5)
      = select (k1_pay42 (F := Ideal) x0 x1 x2 x3 x4 x5 x6 x7 x8) (k1_pay40 (F := Ideal) x0 x1 x2 x3 x4 x5 x6 x7 x8)
          (broadcast _ (Scalar.ofBits .f32 0x00000000#32)) := by unfold k1_pay42 k1_pay40 k1_pay13; rfl
  unfold out1_9
  rw [View.canon_unit_zero hz, h0, pay40, pay41, pay42, pay43, pay44, pay45, pay46]
  rfl

theorem pay11 (a b : FV 256 2048) (c : FV 2048 64) (d : FV 1 64) : k1_pay11 (F := Ideal) a b c d = pick (k1_pay10 a b c d) := by
  unfold k1_pay11
  generalize k1_pay10 a b c d = w
  rfl

theorem out10_eq : out1_10 (F := Ideal) x0 x1 x2 x3 x4 x5 x6 x7 x8 = outI (routed gelu x0 x1 x2 x3 x4 x5 x6 x7) x8 := by
  have h0 : k1_pay11 (F := Ideal) (k1_pay37 x0 x1 x2 x3 x4 x5 x6 x7 x8) (k1_pay38 x0 x1 x2 x3 x4 x5 x6 x7 x8) (View.ld x7 r1_4) (View.ld x8 r1_5)
      = pick (k1_pay41 (F := Ideal) x0 x1 x2 x3 x4 x5 x6 x7 x8) := by unfold k1_pay41; exact pay11 _ _ _ _
  unfold out1_10
  rw [View.canon_unit_zero hz, h0, pay41, pay42, pay43, pay44, pay45, pay46]
  rfl

end Cert.KernelErfIdeal.Out
end
-- ==== Proof.HostTerms.lean ====
/- The references' tensor terms, read at a row: the down projection, the layers, the softmax, the top eight and the gather. -/
module

public import proofs.«01_k».proof.Proof.Whole
public import proofs.«01_k».proof.Proof.Block
public import proofs.«01_k».proof.Proof.Gen.ReferenceErfIdeal.Run
public import Idealize.ShloMosaic.Lib.Pointwise

@[expose] public section

set_option maxRecDepth 16384

noncomputable section

namespace Cert.Router.Host

open Idealize.ShloMosaic Cert.Router Cert.ReferenceErfIdeal Cert.ReferenceErfIdeal.Gen

/-- Tensors of extended reals. -/
abbrev T (s : Shape) := FVec Ideal s .f32

/-- A bias row under every row. -/
def under (b : T S2048) : T S16384x2048 :=
  broadcastInDim S16384x2048 ![0, 1] bcast_S1x2048_S16384x2048_0_1 (broadcastInDim S1x2048 ![1] bcast_S2048_S1x2048_1 b)

/-- The down projection. -/
def down (x : T S16384x4096) (W : T S4096x2048) (b : T S2048) : T S16384x2048 :=
  addf (Host.dotGeneral dot_S16384x4096_S4096x2048_S16384x2048_1_0_0_1_n_n none x W) (under b)

/-- The rows over the root of their mean squares plus ε, times the weights. -/
def normed (h : T S16384x2048) (w : T S2048) : T S16384x2048 :=
  mulf (mulf h (broadcastInDim S16384x2048 ![0, 1] bcast_S16384x1_S16384x2048_0_1 (Host.rsqrt (addf (Host.divf (broadcastInDim S16384x1 ![0] bcast_S16384_S16384x1_0 (Host.reduceAdd (mulf h h) (constant S_ .f32 0x00000000#32) reducesTo_S16384x2048_S16384_d1 h_S_)) (broadcastInDim S16384x1 ![] bcast_S_S16384x1 (constant S_ .f32 0x45000000#32))) (broadcastInDim S16384x1 ![] bcast_S_S16384x1 (constant S_ .f32 0x3727C5AC#32)))))) (under w)

/-- A layer before its activation. -/
def dense (x : T S16384x2048) (W : T S2048x2048) (b : T S2048) : T S16384x2048 :=
  addf (Host.dotGeneral dot_S16384x2048_S2048x2048_S16384x2048_1_0_0_1_n_n none x W) (under b)

/-- The last product. -/
def logits (x : T S16384x2048) (W : T S2048x64) : T S16384x64 :=
  Host.dotGeneral dot_S16384x2048_S2048x64_S16384x64_1_0_0_1_n_n none x W

/-- The exponentials of the logits over their row's maximum. -/
def exps (l : T S16384x64) : T S16384x64 :=
  Host.exp (subf l (broadcastInDim S16384x64 ![0, 1] bcast_S16384x1_S16384x64_0_1 (broadcastInDim S16384x1 ![0] bcast_S16384_S16384x1_0 (maximumf (broadcastInDim S16384 ![] bcast_S_S16384 (constant S_ .f32 0xFF800000#32)) (Host.reduce FloatOps.maximumf l (constant S_ .f32 0xFF800000#32) reducesTo_S16384x64_S16384_d1 h_S_)))))

/-- The exponentials over their row's sum. -/
def shares (x : T S16384x64) : T S16384x64 :=
  Host.divf x (broadcastInDim S16384x64 ![0, 1] bcast_S16384x1_S16384x64_0_1 (broadcastInDim S16384x1 ![0] bcast_S16384_S16384x1_0 (Host.reduceAdd x (constant S_ .f32 0x00000000#32) reducesTo_S16384x64_S16384_d1 h_S_)))

/-- The probabilities plus the balancing biases. -/
def biased (p : T S16384x64) (b : T S64) : T S16384x64 :=
  addf p (broadcastInDim S16384x64 ![0, 1] bcast_S1x64_S16384x64_0_1 (broadcastInDim S1x64 ![1] bcast_S64_S1x64_1 b))

theorem down_apply (x : T S16384x4096) (W : T S4096x2048) (b : T S2048) (r : Fin 16384) (j : Fin 2048) :
    down x W b (ix2 r j) = hidden x W b r j := by
  unfold hidden affine linear
  pointwise [down, under]

theorem dense_apply (x : T S16384x2048) (W : T S2048x2048) (b : T S2048) (r : Fin 16384) (j : Fin 2048) :
    dense x W b (ix2 r j) = affine (fun i => x (ix2 r i)) (fun i j => W (ix2 i j)) (fun j => b (ix1 j)) j := by
  unfold affine linear
  pointwise [dense, under]

theorem normed_apply (h : T S16384x2048) (w : T S2048) (r : Fin 16384) (j : Fin 2048) :
    normed h w (ix2 r j) = scaled (fun j => h (ix2 r j)) (meanSquare (fun j => h (ix2 r j))) (fun j => w (ix1 j)) j := by
  unfold scaled meanSquare
  pointwise [normed, under]

theorem logits_apply (x : T S16384x2048) (W : T S2048x64) (r : Fin 16384) (e : Fin 64) :
    logits x W (ix2 r e) = linear (fun i => x (ix2 r i)) (fun i j => W (ix2 i j)) e := by
  unfold linear
  pointwise [logits]

theorem exps_apply (l : T S16384x64) (r : Fin 16384) (e : Fin 64) :
    exps l (ix2 r e) = Ideal.exp (l (ix2 r e) - top (fun e => l (ix2 r e))) := by
  unfold top
  pointwise [exps]
  rw [ofBits_negInf, max_eq_right bot_le]

theorem shares_apply (x : T S16384x64) (r : Fin 16384) (e : Fin 64) :
    shares x (ix2 r e) = Ideal.div (x (ix2 r e)) (∑ i, x (ix2 r i)) := by
  pointwise [shares]

theorem biased_apply (p : T S16384x64) (b : T S64) (r : Fin 16384) (e : Fin 64) :
    biased p b (ix2 r e) = p (ix2 r e) + b (ix1 e) := by
  pointwise [biased]

end Cert.Router.Host
end
-- ==== Proof.HostTop.lean ====
/- The references' stable top eight and the gather of the probabilities it names, read at a row. -/
module

public import proofs.«01_k».proof.Proof.HostTerms
public import Idealize.ShloMosaic.Lib.ReduceAll
public import Idealize.ShloMosaic.Lib.ValueLayout
public import Idealize.ShloMosaic.PureOps.Ideal.Laws

@[expose] public section

set_option maxRecDepth 16384

noncomputable section

namespace Cert.Router.Host

open Idealize.ShloMosaic Cert.Router Cert.ReferenceErfIdeal Cert.ReferenceErfIdeal.Gen

/-- The numbers of each row's eight greatest entries. -/
def picks (v : T S16384x64) : IVec S16384x8 32 :=
  (Host.topK S16384x8 1 (FloatOps.cmpfTotal .gt) v sliceFits_S16384x64_S16384x8).2

/-- The numbers, those below 0 counted from the row's end, one to an index vector. -/
def starts (i : IVec S16384x8 32) : IVec S16384x8x1 32 :=
  shapeCast _ (select (cmpi .slt i (broadcastInDim S16384x8 ![] bcast_S_S16384x8 (constantI S_ 32 0#32))) (addi i (broadcastInDim S16384x8 ![] bcast_S_S16384x8 (constantI S_ 32 64#32))) i) shapeCasts_S16384x8_S16384x8x1

/-- The entries the numbers name, the filling constant where a number is out of range. -/
def taken (p : T S16384x64) (s : IVec S16384x8x1 32) : T S16384x8 :=
  select (Host.reduce IntOp.andi (andi (cmpi .sge s (broadcastInDim S16384x8x1 ![] bcast_S_S16384x8x1 (constantI S_ 32 0#32))) (cmpi .sle s (broadcastInDim S16384x8x1 ![0, 1, 2] bcast_S1x1x1_S16384x8x1_0_1_2 (broadcastInDim S1x1x1 ![2] bcast_S1_S1x1x1_2 (constantI S1 32 63#32))))) (constantI S_ 1 1#1) reducesTo_S16384x8x1_S16384x8_d2 h_S_) (Host.gather gather_S16384x64_S16384x8x1_S16384x8_n_1_0_0_1_2_11 p s) (broadcastInDim S16384x8 ![] bcast_S_S16384x8 (constant S_ .f32 0x7FC00000#32))

/-- A stable sort's position for a row's `k`-th number, on a row of any length: the entry at place `k`. -/
theorem topK_apply {M N K : Nat} (hK : K ≤ N) (v : (⟨2, ![M, N]⟩ : Shape).Idx → EReal)
    (h : (⟨2, ![M, N]⟩ : Shape).Slices (fun _ => 0) ⟨2, ![M, K]⟩) (r : Fin M) (k : Fin K) :
    (Host.topK (s := ⟨2, ![M, N]⟩) ⟨2, ![M, K]⟩ 1 (fun a b : EReal => Ideal.cmp .ogt a b) v h).2 (ix2 r k)
      = BitVec.ofNat 32 (nth (fun e => v (ix2 r e)) (k.castLE hK) : Fin N) := by
  have hn := sortedFrom_eq_nth (fun e => v (ix2 r e)) (fun a b => Ideal.cmp .ogt (v (ix2 r a)) (v (ix2 r b)) == 1#1)
    (fun a b => by
      show (BitVec.ofBool (decide (v (ix2 r b) < v (ix2 r a))) == 1#1) = true ↔ _
      by_cases hh : v (ix2 r b) < v (ix2 r a) <;> simp [hh]) (k.castLE hK)
  have hj : ∀ e : Fin N, ((ix2 r (k.castLE hK) : (⟨2, ![M, N]⟩ : Shape).Idx).along 1 e) = ix2 r e := by
    intro e
    funext a
    match a with
    | ⟨0, _⟩ => rfl
    | ⟨1, _⟩ => rfl
  have hs : (fun a => ⟨0 + ((ix2 r k : (⟨2, ![M, K]⟩ : Shape).Idx) (a.cast h.1.symm)).val,
        Nat.lt_of_lt_of_le (Nat.add_lt_add_left (Fin.isLt _) _) (h.2 a)⟩ : (⟨2, ![M, N]⟩ : Shape).Idx)
      = ix2 r (k.castLE hK) := by
    funext a
    match a with
    | ⟨0, _⟩ => exact Fin.ext (Nat.zero_add _)
    | ⟨1, _⟩ => exact Fin.ext (Nat.zero_add _)
  let f : (⟨2, ![M, N]⟩ : Shape).Idx → BitVec 32 := fun j => iotaInDim (⟨2, ![M, N]⟩ : Shape) 32 1 (j.along 1
      (sortedFrom (fun a b => Ideal.cmp .ogt (v (j.along 1 a)) (v (j.along 1 b)) == 1#1) (j 1)))
  have e : (Host.topK (s := ⟨2, ![M, N]⟩) ⟨2, ![M, K]⟩ 1 (fun a b : EReal => Ideal.cmp .ogt a b) v h).2 (ix2 r k)
      = f (fun a => ⟨0 + ((ix2 r k : (⟨2, ![M, K]⟩ : Shape).Idx) (a.cast h.1.symm)).val,
        Nat.lt_of_lt_of_le (Nat.add_lt_add_left (Fin.isLt _) _) (h.2 a)⟩) := rfl
  rw [e, hs, ← hn]
  have e2 : f (ix2 r (k.castLE hK)) = iotaInDim (⟨2, ![M, N]⟩ : Shape) 32 1 ((ix2 r (k.castLE hK) : (⟨2, ![M, N]⟩ : Shape).Idx).along 1
      (sortedFrom (fun a b : Fin N => Ideal.cmp .ogt (v ((ix2 r (k.castLE hK) : (⟨2, ![M, N]⟩ : Shape).Idx).along 1 a))
        (v ((ix2 r (k.castLE hK) : (⟨2, ![M, N]⟩ : Shape).Idx).along 1 b)) == 1#1) (k.castLE hK))) := rfl
  rw [e2]
  simp only [hj]
  rfl

/-- The number at place `k` of row `r` is the number of the entry at place `k`. -/
theorem picks_apply (v : T S16384x64) (r : Fin 16384) (k : Fin 8) :
    picks v (ix2 r k) = BitVec.ofNat 32 (nth (fun e => v (ix2 r e)) (k.castLE (by decide)) : Fin 64) :=
  topK_apply (by decide) v sliceFits_S16384x64_S16384x8 r k

/-- Numbers of entries are left as they are. -/
theorem starts_apply (i : IVec S16384x8 32) (hi : ∀ r k, ∃ e : Fin 64, i (ix2 r k) = BitVec.ofNat 32 e) (r : Fin 16384) (k : Fin 8)
    (u : Fin 1) : starts i (ValueIdx.ix3 r k u) = i (ix2 r k) := by
  have h : starts i (ValueIdx.ix3 r k u) = Scalar.select (IntOp.cmpi .slt (i (ix2 r k)) 0#32) (IntOp.addi (i (ix2 r k)) 64#32) (i (ix2 r k)) :=
    shapeCast_apply _ _ _ (ix2 r k) (by
      have hu : u.val = 0 := by omega
      rw [Shape.rowMajor_val_three, Shape.rowMajor_val_two]
      show r.val * 8 + k.val = (r.val * 8 + k.val) * 1 + u.val
      omega)
  rw [h]
  obtain ⟨e, he⟩ := hi r k
  rw [he]
  clear he
  revert e
  decide

/-- Where row `r`'s number `k` is `e`, the entry taken is the row's entry `e`. -/
theorem taken_apply (p : T S16384x64) (s : IVec S16384x8x1 32) (hs : ∀ r k u, ∃ e : Fin 64, s (ValueIdx.ix3 r k u) = BitVec.ofNat 32 e)
    (r : Fin 16384) (k : Fin 8) (e : Fin 64) (he : s (ValueIdx.ix3 r k 0) = BitVec.ofNat 32 e) : taken p s (ix2 r k) = p (ix2 r e) := by
  unfold taken
  show Scalar.select (Host.reduce _ _ _ _ _ _) (Host.gather _ _ _ _) _ = _
  rw [Host.reduce_andi_one _ _ _ _ _ rfl (fun i => by
    obtain ⟨a, b, c, rfl⟩ : ∃ a b c, i = ValueIdx.ix3 a b c := ⟨_, _, _, ValueIdx.eq_ix3 i⟩
    obtain ⟨e, he⟩ := hs a b c
    show IntOp.andi (IntOp.cmpi .sge (s (ValueIdx.ix3 a b c)) 0#32) (IntOp.cmpi .sle (s (ValueIdx.ix3 a b c)) 63#32) = 1#1
    rw [he]; clear he; revert e; decide)]
  show Host.gather _ _ _ _ = _
  unfold Host.gather
  congr 1
  funext a
  refine Fin.ext ?_
  have hsi : ∀ c, (gather_S16384x64_S16384x8x1_S16384x8_n_1_0_0_1_2_11).siIdx (ix2 r k) c = ValueIdx.ix3 r k 0 := by
    intro c
    have hc : c.val = 0 := by have := c.isLt; simp only [gather_S16384x64_S16384x8x1_S16384x8_n_1_0_0_1_2_11, List.length_singleton] at this; omega
    funext b; refine Fin.ext ?_
    match b with
    | ⟨0, _⟩ => rfl
    | ⟨1, _⟩ => rfl
    | ⟨2, _⟩ => exact hc
  match a with
  | ⟨0, _⟩ => exact (Nat.zero_add _).trans rfl
  | ⟨1, _⟩ =>
    show GatherDims.start gather_S16384x64_S16384x8x1_S16384x8_n_1_0_0_1_2_11 (ix2 r k) s (1 : Fin 2)
      + GatherDims.batchCoord gather_S16384x64_S16384x8x1_S16384x8_n_1_0_0_1_2_11 (ix2 r k) (1 : Fin 2)
      + GatherDims.offCoord gather_S16384x64_S16384x8x1_S16384x8_n_1_0_0_1_2_11 (ix2 r k) (1 : Fin 2) = e.val
    rw [GatherDims.batchCoord_eq_zero _ _ _ (by decide), GatherDims.offCoord_eq_zero _ _ _ (by decide)]
    unfold GatherDims.start
    rw [dif_pos (by decide), hsi, he]
    clear he hs
    revert e
    decide

end Cert.Router.Host
end
-- ==== Proof.HostWhole.lean ====
/- The references' tensor terms put together: the three results are the row by row functions. -/
module

public import proofs.«01_k».proof.Proof.HostTop

@[expose] public section

set_option maxRecDepth 16384

noncomputable section

namespace Cert.Router.Host

open Idealize.ShloMosaic Cert.Router Cert.ReferenceErfIdeal Cert.ReferenceErfIdeal.Gen

variable (g : EReal → EReal) (x : T S16384x4096) (Wd : T S4096x2048) (bd : T S2048) (w : T S2048) (W1 : T S2048x2048)
  (b1 : T S2048) (W2 : T S2048x2048) (b2 : T S2048) (W3 : T S2048x64) (be : T S64)

/-- The first layer before its activation. -/
def first : T S16384x2048 := dense (normed (down x Wd bd) w) W1 b1

/-- The second layer before its activation. -/
def second : T S16384x2048 := dense (fun i => g (first x Wd bd w W1 b1 i)) W2 b2

/-- The logits of every row. -/
def third : T S16384x64 := logits (fun i => g (second g x Wd bd w W1 b1 W2 b2 i)) W3

/-- The probabilities of every row. -/
def odds : T S16384x64 := shares (exps (third g x Wd bd w W1 b1 W2 b2 W3))

/-- The logits are the row by row ones. -/
theorem third_apply (r : Fin 16384) (e : Fin 64) : third g x Wd bd w W1 b1 W2 b2 W3 (ix2 r e)
    = scores g (hidden x Wd bd r) (meanSquare (hidden x Wd bd r)) (fun j => w (ix1 j)) (fun i j => W1 (ix2 i j))
      (fun j => b1 (ix1 j)) (fun i j => W2 (ix2 i j)) (fun j => b2 (ix1 j)) (fun i j => W3 (ix2 i j)) e := by
  have h1 : ∀ j, first x Wd bd w W1 b1 (ix2 r j) = affine (scaled (hidden x Wd bd r) (meanSquare (hidden x Wd bd r)) fun j => w (ix1 j))
      (fun i j => W1 (ix2 i j)) (fun j => b1 (ix1 j)) j := by
    intro j
    unfold first
    rw [dense_apply]
    simp only [normed_apply, down_apply]
  have h2 : ∀ j, second g x Wd bd w W1 b1 W2 b2 (ix2 r j) = affine (fun i => g (first x Wd bd w W1 b1 (ix2 r i)))
      (fun i j => W2 (ix2 i j)) (fun j => b2 (ix1 j)) j := fun j => by
    unfold second
    exact dense_apply _ W2 b2 r j
  unfold third
  rw [logits_apply]
  simp only [h2, h1]
  rfl

/-- The probabilities are the row by row ones. -/
theorem odds_apply (r : Fin 16384) (e : Fin 64) :
    odds g x Wd bd w W1 b1 W2 b2 W3 (ix2 r e) = probs g w W1 b1 W2 b2 W3 (hidden x Wd bd r) e := by
  unfold odds
  rw [shares_apply]
  simp only [exps_apply, third_apply]
  rfl

/-- The numbers picked are the chosen experts'. -/
theorem picks_odds (r : Fin 16384) (k : Fin 8) : picks (biased (odds g x Wd bd w W1 b1 W2 b2 W3) be) (ix2 r k)
    = BitVec.ofNat 32 (chosen be (probs g w W1 b1 W2 b2 W3 (hidden x Wd bd r)) k) := by
  rw [picks_apply]
  simp only [biased_apply, odds_apply]
  rfl

/-- The second result. -/
theorem second_result : picks (biased (odds g x Wd bd w W1 b1 W2 b2 W3) be) = resI g x Wd bd w W1 b1 W2 b2 W3 be := by
  funext i
  obtain ⟨r, k, rfl⟩ : ∃ r k, i = ix2 r k := ⟨_, _, eq_ix2 i⟩
  exact picks_odds g x Wd bd w W1 b1 W2 b2 W3 be r k

/-- The first result. -/
theorem first_result : taken (odds g x Wd bd w W1 b1 W2 b2 W3) (starts (picks (biased (odds g x Wd bd w W1 b1 W2 b2 W3) be)))
    = resP g x Wd bd w W1 b1 W2 b2 W3 be := by
  funext i
  obtain ⟨r, k, rfl⟩ : ∃ r k, i = ix2 r k := ⟨_, _, eq_ix2 i⟩
  have hs : ∀ r k u, starts (picks (biased (odds g x Wd bd w W1 b1 W2 b2 W3) be)) (ValueIdx.ix3 r k u)
      = BitVec.ofNat 32 (chosen be (probs g w W1 b1 W2 b2 W3 (hidden x Wd bd r)) k) := fun r k u =>
    (starts_apply _ (fun r k => ⟨_, picks_odds g x Wd bd w W1 b1 W2 b2 W3 be r k⟩) r k u).trans
      (picks_odds g x Wd bd w W1 b1 W2 b2 W3 be r k)
  rw [taken_apply _ _ (fun r k u => ⟨_, hs r k u⟩) r k _ (hs r k 0), odds_apply]
  rfl

/-- The third result. -/
theorem third_result : down x Wd bd = resH x Wd bd := by
  funext i
  obtain ⟨r, j, rfl⟩ : ∃ r j, i = ix2 r j := ⟨_, _, eq_ix2 i⟩
  exact down_apply x Wd bd r j

end Cert.Router.Host
end
-- ==== Proof.HostErf.lean ====
/- What the reference with the exact activation computes. -/
module

public import proofs.«01_k».proof.Proof.HostWhole

@[expose] public section

set_option maxRecDepth 16384

noncomputable section

namespace Cert.ReferenceErfIdeal.Out

open Idealize.ShloMosaic Idealize.SL.Sem Idealize.ShloMosaic.TcCoe Idealize.ShloMosaic.StableHlo Cert.Router Cert.Router.Host Cert.ReferenceErfIdeal Cert.ReferenceErfIdeal.Gen Cert.ReferenceErfIdeal.Value

/-- The exact activation, by the complementary error function. -/
def gelu (x : EReal) : EReal := Ideal.ofBits .f32 0x3F000000#32 * x * Ideal.erfc (-x * Ideal.ofBits .f32 0x3F3504F3#32)

variable (V : Valuation τ sig (Elt Ideal))

abbrev a0 : T S16384x4096 := V (Proc.devRef .tc main_arg0)
abbrev a1 : T S4096x2048 := V (Proc.devRef .tc main_arg1)
abbrev a2 : T S2048 := V (Proc.devRef .tc main_arg2)
abbrev a3 : T S2048 := V (Proc.devRef .tc main_arg3)
abbrev a4 : T S2048x2048 := V (Proc.devRef .tc main_arg4)
abbrev a5 : T S2048 := V (Proc.devRef .tc main_arg5)
abbrev a6 : T S2048x2048 := V (Proc.devRef .tc main_arg6)
abbrev a7 : T S2048 := V (Proc.devRef .tc main_arg7)
abbrev a8 : T S2048x64 := V (Proc.devRef .tc main_arg8)
abbrev a9 : T S64 := V (Proc.devRef .tc main_arg9)

theorem v3_eq : res_main_v3 V = down (a0 V) (a1 V) (a2 V) := rfl

theorem v20_eq : res_main_v20 V = first (a0 V) (a1 V) (a2 V) (a3 V) (a4 V) (a5 V) := by
  unfold first
  rw [← v3_eq]
  unfold res_main_v20
  generalize res_main_v3 V = h
  rfl

theorem v31_eq : res_main_v31 V = second gelu (a0 V) (a1 V) (a2 V) (a3 V) (a4 V) (a5 V) (a6 V) (a7 V) := by
  unfold second
  rw [← v20_eq]
  unfold res_main_v31
  generalize res_main_v20 V = h
  rfl

theorem v39_eq : res_main_v39 V = third gelu (a0 V) (a1 V) (a2 V) (a3 V) (a4 V) (a5 V) (a6 V) (a7 V) (a8 V) := by
  unfold third
  rw [← v31_eq]
  unfold res_main_v39
  generalize res_main_v31 V = h
  rfl

theorem v50_eq : res_main_v50 V = odds gelu (a0 V) (a1 V) (a2 V) (a3 V) (a4 V) (a5 V) (a6 V) (a7 V) (a8 V) := by
  unfold odds
  rw [← v39_eq]
  unfold res_main_v50 res_main_v46
  generalize res_main_v39 V = h
  rfl

/-- The second result is the chosen experts' numbers. -/
theorem indices_eq : res_main_indices V
    = resI gelu (a0 V) (a1 V) (a2 V) (a3 V) (a4 V) (a5 V) (a6 V) (a7 V) (a8 V) (a9 V) := by
  rw [← second_result, ← v50_eq]
  unfold res_main_indices res_main_v53
  generalize res_main_v50 V = h
  rfl

/-- The first result is the chosen experts' probabilities. -/
theorem taken_eq : taken (res_main_v50 V) (res_main_call0_v5 V)
    = resP gelu (a0 V) (a1 V) (a2 V) (a3 V) (a4 V) (a5 V) (a6 V) (a7 V) (a8 V) (a9 V) := by
  rw [← first_result, second_result, ← indices_eq, ← v50_eq]
  unfold res_main_call0_v5
  generalize res_main_v50 V = h
  generalize res_main_indices V = i
  rfl

/-- The third result is the down projection. -/
theorem hidden_eq : res_main_v3 V = resH (a0 V) (a1 V) (a2 V) := by
  rw [v3_eq, third_result]

/-- Every execution ends with the three results and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v54)
        = resP gelu (a0 (launchContents m c)) (a1 (launchContents m c)) (a2 (launchContents m c)) (a3 (launchContents m c))
          (a4 (launchContents m c)) (a5 (launchContents m c)) (a6 (launchContents m c)) (a7 (launchContents m c))
          (a8 (launchContents m c)) (a9 (launchContents m c))
      ∧ r.2.mem ((c.tc : Thread nD τ).loc main_indices)
        = resI gelu (a0 (launchContents m c)) (a1 (launchContents m c)) (a2 (launchContents m c)) (a3 (launchContents m c))
          (a4 (launchContents m c)) (a5 (launchContents m c)) (a6 (launchContents m c)) (a7 (launchContents m c))
          (a8 (launchContents m c)) (a9 (launchContents m c))
      ∧ r.2.mem ((c.tc : Thread nD τ).loc main_v3)
        = resH (a0 (launchContents m c)) (a1 (launchContents m c)) (a2 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (taken_eq (launchContents m c)), (h c).2.1.trans (indices_eq (launchContents m c)),
    (h c).2.2.1.trans (hidden_eq (launchContents m c)), (h c).2.2.2⟩) (Value.run (F := Ideal) m ρ)

end Cert.ReferenceErfIdeal.Out
end
-- ==== Proof.Same.lean ====
/- The kernels' activations are the references' on real numbers, with real values there. -/
module

public import proofs.«01_k».proof.Proof.Finite
public import proofs.«01_k».proof.Proof.KernelOut
public import proofs.«01_k».proof.Proof.ErfOut
public import proofs.«01_k».proof.Proof.HostErf

@[expose] public section

noncomputable section

namespace Cert.Router

open Idealize.ShloMosaic

theorem k_zero : k 0x00000000#32 = 0 := Ideal.ofBits_zero_f32

/-- The kernel's middle polynomial is the reference's. -/
theorem mid_eq (t : EReal) : Cert.KernelIdeal.Out.mid t = middle t := by
  unfold Cert.KernelIdeal.Out.mid
  rw [mul_comm t]
  rfl

/-- The kernel's outer polynomial is the reference's. -/
theorem outer_eq (t : EReal) : Cert.KernelIdeal.Out.outer t = distant t := by
  unfold Cert.KernelIdeal.Out.outer
  rw [mul_comm t]
  rfl

theorem near_eq (u s : EReal) : Cert.KernelIdeal.Out.near u s = k 0x3F800000#32 - u * nearly s := rfl

/-- The kernel's approximation of the complementary error function is the reference's. -/
theorem erfc_eq {u : EReal} (hu : IsReal u) : Cert.KernelIdeal.Out.erfc u = rational u := by
  unfold Cert.KernelIdeal.Out.erfc Cert.KernelIdeal.Out.merge Cert.KernelIdeal.Out.tail
  rw [mid_eq, outer_eq, near_eq]
  unfold rational
  by_cases h : u = 0
  · rw [show Ideal.cmp .olt (max u (-u)) (k 0x3F800000#32) = 1#1 by rw [h]; exact near_zero]
    rfl
  · unfold ending
    rw [div_square hu h]
    simp only [k_zero, zero_sub]

/-- The kernel's activation is the reference's. -/
theorem gelu_eq (x : EReal) (hx : IsReal x) : Cert.KernelIdeal.Out.gelu x = activation x := by
  unfold Cert.KernelIdeal.Out.gelu activation
  have hu : IsReal (-x * k 0x3F3504F3#32) := hx.neg.mul (isReal_k _)
  rw [show (k 0x00000000#32 - x) = -x by rw [k_zero, zero_sub], erfc_eq hu, mul_comm x]

theorem isReal_gelu (x : EReal) (hx : IsReal x) : IsReal (Cert.KernelIdeal.Out.gelu x) := by
  rw [gelu_eq x hx]; exact isReal_activation hx

/-- The activation by the error function is the one by the complementary error function. -/
theorem gelu_erf_eq (x : EReal) : Cert.KernelErfIdeal.Out.gelu x = Cert.ReferenceErfIdeal.Out.gelu x := by
  unfold Cert.KernelErfIdeal.Out.gelu Cert.ReferenceErfIdeal.Out.gelu
  rw [EReal.neg_mul, Ideal.erfc_neg, mul_comm x, Ideal.ofBits_one_f32]

theorem isReal_gelu_erf (x : EReal) (hx : IsReal x) : IsReal (Cert.KernelErfIdeal.Out.gelu x) :=
  (hx.mul (isReal_k _)).mul ((isReal_k _).add (hx.mul (isReal_k _)).erf)

/-- The results of two activations that agree on real numbers are the same, and no probability plus its bias is −∞, when the
    router's weights and biases are real numbers and no balancing bias is −∞. -/
theorem results_congr {g g' : EReal → EReal} (hg : ∀ x, IsReal x → g x = g' x) (hr : ∀ x, IsReal x → IsReal (g x))
    {x : Mat 16384 4096} {Wd : Mat 4096 2048} {bd : Vec 2048} {w : Vec 2048} {W1 : Mat 2048 2048} {b1 : Vec 2048} {W2 : Mat 2048 2048}
    {b2 : Vec 2048} {W3 : Mat 2048 64} {be : Vec 64}
    (hw : ∀ i, IsReal (w i)) (hW1 : ∀ i, IsReal (W1 i)) (hb1 : ∀ i, IsReal (b1 i)) (hW2 : ∀ i, IsReal (W2 i)) (hb2 : ∀ i, IsReal (b2 i))
    (hW3 : ∀ i, IsReal (W3 i)) (hbe : ∀ i, be i ≠ ⊥) :
    Apart g x Wd bd w W1 b1 W2 b2 W3 be ∧ resP g x Wd bd w W1 b1 W2 b2 W3 be = resP g' x Wd bd w W1 b1 W2 b2 W3 be
      ∧ resI g x Wd bd w W1 b1 W2 b2 W3 be = resI g' x Wd bd w W1 b1 W2 b2 W3 be := by
  have hp := fun r => probs_congr (h := hidden x Wd bd r) hg hr hw hW1 hb1 hW2 hb2 hW3
  refine ⟨fun r e => fun h => (EReal.add_eq_bot_iff.mp h).elim ((hp r).2 e).ne_bot (hbe _), ?_, ?_⟩
  · funext i
    obtain ⟨r, k, rfl⟩ : ∃ r k, i = ix2 r k := ⟨_, _, eq_ix2 i⟩
    show probs g w W1 b1 W2 b2 W3 (hidden x Wd bd r) (chosen be (probs g w W1 b1 W2 b2 W3 (hidden x Wd bd r)) k)
      = probs g' w W1 b1 W2 b2 W3 (hidden x Wd bd r) (chosen be (probs g' w W1 b1 W2 b2 W3 (hidden x Wd bd r)) k)
    rw [(hp r).1]
  · funext i
    obtain ⟨r, k, rfl⟩ : ∃ r k, i = ix2 r k := ⟨_, _, eq_ix2 i⟩
    show BitVec.ofNat 32 (chosen be (probs g w W1 b1 W2 b2 W3 (hidden x Wd bd r)) k)
      = BitVec.ofNat 32 (chosen be (probs g' w W1 b1 W2 b2 W3 (hidden x Wd bd r)) k)
    rw [(hp r).1]

end Cert.Router
end
-- ==== Proof.Congr.lean ====
/- Equal argument arrays have equal results. -/
module

public import proofs.«01_k».proof.Proof.Whole

@[expose] public section

noncomputable section

namespace Cert.Router

open Idealize.ShloMosaic

/-- Equal arrays have the same first result. -/
theorem congrP {g : EReal → EReal} {x x' : Mat 16384 4096} {Wd Wd' : Mat 4096 2048} {bd bd' w w' : Vec 2048} {W1 W1' : Mat 2048 2048}
    {b1 b1' : Vec 2048} {W2 W2' : Mat 2048 2048} {b2 b2' : Vec 2048} {W3 W3' : Mat 2048 64} {be be' : Vec 64} (h0 : x' = x) (h1 : Wd' = Wd)
    (h2 : bd' = bd) (h3 : w' = w) (h4 : W1' = W1) (h5 : b1' = b1) (h6 : W2' = W2) (h7 : b2' = b2) (h8 : W3' = W3) (h9 : be' = be) :
    resP g x' Wd' bd' w' W1' b1' W2' b2' W3' be' = resP g x Wd bd w W1 b1 W2 b2 W3 be := by
  subst h0 h1 h2 h3 h4 h5 h6 h7 h8 h9; rfl

/-- Equal arrays have the same second result. -/
theorem congrI {g : EReal → EReal} {x x' : Mat 16384 4096} {Wd Wd' : Mat 4096 2048} {bd bd' w w' : Vec 2048} {W1 W1' : Mat 2048 2048}
    {b1 b1' : Vec 2048} {W2 W2' : Mat 2048 2048} {b2 b2' : Vec 2048} {W3 W3' : Mat 2048 64} {be be' : Vec 64} (h0 : x' = x) (h1 : Wd' = Wd)
    (h2 : bd' = bd) (h3 : w' = w) (h4 : W1' = W1) (h5 : b1' = b1) (h6 : W2' = W2) (h7 : b2' = b2) (h8 : W3' = W3) (h9 : be' = be) :
    resI g x' Wd' bd' w' W1' b1' W2' b2' W3' be' = resI g x Wd bd w W1 b1 W2 b2 W3 be := by
  subst h0 h1 h2 h3 h4 h5 h6 h7 h8 h9; rfl

/-- Equal arrays have the same third result. -/
theorem congrH {x x' : Mat 16384 4096} {Wd Wd' : Mat 4096 2048} {bd bd' : Vec 2048} (h0 : x' = x) (h1 : Wd' = Wd) (h2 : bd' = bd) :
    resH x' Wd' bd' = resH x Wd bd := by
  subst h0 h1 h2; rfl

end Cert.Router
end
-- ==== Proof.Pre.lean ====
/- What the precondition says: every entry of the router's weights and biases is a real number, and no balancing bias
   is −∞. -/
module

public import proofs.«01_k».proof.Proof.Finite
public import proofs.«01_k».proof.Proof.Gen.Pre_finite
public import Idealize.ShloMosaic.Lib.ReduceAll

@[expose] public section

noncomputable section

namespace Cert.Router

open Idealize.ShloMosaic Cert.Pre_finite Cert.Pre_finite.Gen

/-- A number whose size is under the word of +∞ is a real number. -/
theorem isReal_of_lt {x : EReal} (h : Ideal.cmp .olt (max x (-x)) (k 0x7F800000#32) = 1#1) : IsReal x := by
  have ht : k 0x7F800000#32 = ⊤ := by simp [k, Ideal.ofBits, Ideal.ieee]
  rw [ht] at h
  have hl : max x (-x) < ⊤ := by
    by_contra hn
    have : Ideal.cmp .olt (max x (-x)) ⊤ = BitVec.ofBool (decide (max x (-x) < ⊤)) := rfl
    rw [this, decide_eq_false hn] at h
    exact absurd h (by decide)
  induction x with
  | bot => simp at hl
  | top => simp at hl
  | coe r => exact ⟨r, rfl⟩

/-- A number over the word of −∞ is not −∞. -/
theorem ne_bot_of_gt {x : EReal} (h : Ideal.cmp .ogt x (k 0xFF800000#32) = 1#1) : x ≠ ⊥ := by
  rintro rfl
  have hb : k 0xFF800000#32 = ⊥ := by simp [k, Ideal.ofBits, Ideal.ieee]
  rw [hb, show Ideal.cmp .ogt ⊥ ⊥ = BitVec.ofBool (decide ((⊥ : EReal) < ⊥)) from rfl, decide_eq_false (lt_irrefl _)] at h
  exact absurd h (by decide)

/-- A test of every entry of an array that came out 1. -/
theorem isReal_of_all {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .olt (Host.absf x) (broadcastInDim s ![] b (constant S_ .f32 0x7F800000#32))) (constantI S_ 1 1#1) h hu j = 1#1)
    (i : s.Idx) : IsReal (x i) := by
  have : Subsingleton S_.Idx := ⟨fun a b => funext fun i => i.elim0⟩
  exact isReal_of_lt (Host.reduce_andi_all _ _ h hu j e i)

/-- A test of every balancing bias that came out 1. -/
theorem ne_bot_of_all {s : Shape} {axes : List (Fin s.rank)} (x : FVec Ideal s .f32) (b : S_.BroadcastsInDim s (![] : Fin 0 → Fin s.rank))
    (h : s.ReducesTo axes S_) (hu : 0 < S_.numel) (j : S_.Idx)
    (e : Host.reduce IntOp.andi (cmpf .ogt x (broadcastInDim s ![] b (constant S_ .f32 0xFF800000#32))) (constantI S_ 1 1#1) h hu j = 1#1)
    (i : s.Idx) : x i ≠ ⊥ := by
  have : Subsingleton S_.Idx := ⟨fun a b => funext fun i => i.elim0⟩
  exact ne_bot_of_gt (Host.reduce_andi_all _ _ h hu j e i)

/-- What the precondition says of the arguments. -/
theorem of_pre (x : FVec Ideal S16384x4096 .f32) (Wd : FVec Ideal S4096x2048 .f32) (bd w : FVec Ideal S2048 .f32)
    (W1 : FVec Ideal S2048x2048 .f32) (b1 : FVec Ideal S2048 .f32) (W2 : FVec Ideal S2048x2048 .f32) (b2 : FVec Ideal S2048 .f32)
    (W3 : FVec Ideal S2048x64 .f32) (be : FVec Ideal S64 .f32) (h : fn (F := Ideal) x Wd bd w W1 b1 W2 b2 W3 be = fun _ => 1#1) :
    (∀ i, IsReal (w i)) ∧ (∀ i, IsReal (W1 i)) ∧ (∀ i, IsReal (b1 i)) ∧ (∀ i, IsReal (W2 i)) ∧ (∀ i, IsReal (b2 i))
      ∧ (∀ i, IsReal (W3 i)) ∧ (∀ i, be i ≠ ⊥) := by
  have h := congrFun h (Shape.Idx.first (Facts.h_S_))
  unfold fn fn_part1 at h
  obtain ⟨h, e8⟩ := IntOp.andi_eq_one.1 h
  obtain ⟨h, e7⟩ := IntOp.andi_eq_one.1 h
  obtain ⟨h, e6⟩ := IntOp.andi_eq_one.1 h
  obtain ⟨h, e5⟩ := IntOp.andi_eq_one.1 h
  obtain ⟨h, e4⟩ := IntOp.andi_eq_one.1 h
  obtain ⟨e9, e3⟩ := IntOp.andi_eq_one.1 h
  exact ⟨isReal_of_all _ _ _ _ _ e3, isReal_of_all _ _ _ _ _ e4, isReal_of_all _ _ _ _ _ e5, isReal_of_all _ _ _ _ _ e6,
    isReal_of_all _ _ _ _ _ e7, isReal_of_all _ _ _ _ _ e8, ne_bot_of_all _ _ _ _ _ e9⟩

end Cert.Router
end
-- ==== Proof.HostRational.lean ====
/- What the reference with the rational activation computes. -/
module

public import proofs.«01_k».proof.Proof.HostWhole
public import proofs.«01_k».proof.Proof.Rational
public import proofs.«01_k».proof.Proof.Gen.ReferenceIdeal.Run

@[expose] public section

set_option maxRecDepth 16384

noncomputable section

namespace Cert.ReferenceIdeal.Out

open Idealize.ShloMosaic Idealize.SL.Sem Idealize.ShloMosaic.TcCoe Idealize.ShloMosaic.StableHlo Cert.Router Cert.Router.Host Cert.ReferenceIdeal Cert.ReferenceIdeal.Gen Cert.ReferenceIdeal.Value

variable (V : Valuation τ sig (Elt Ideal))

abbrev a0 : T S16384x4096 := V (Proc.devRef .tc main_arg0)
abbrev a1 : T S4096x2048 := V (Proc.devRef .tc main_arg1)
abbrev a2 : T S2048 := V (Proc.devRef .tc main_arg2)
abbrev a3 : T S2048 := V (Proc.devRef .tc main_arg3)
abbrev a4 : T S2048x2048 := V (Proc.devRef .tc main_arg4)
abbrev a5 : T S2048 := V (Proc.devRef .tc main_arg5)
abbrev a6 : T S2048x2048 := V (Proc.devRef .tc main_arg6)
abbrev a7 : T S2048 := V (Proc.devRef .tc main_arg7)
abbrev a8 : T S2048x64 := V (Proc.devRef .tc main_arg8)
abbrev a9 : T S64 := V (Proc.devRef .tc main_arg9)

theorem v3_eq : res_main_v3 V = down (a0 V) (a1 V) (a2 V) := rfl

theorem v20_eq : res_main_v20 V = first (a0 V) (a1 V) (a2 V) (a3 V) (a4 V) (a5 V) := by
  unfold first
  rw [← v3_eq]
  unfold res_main_v20
  generalize res_main_v3 V = h
  rfl

theorem v127_eq : res_main_v127 V = second activation (a0 V) (a1 V) (a2 V) (a3 V) (a4 V) (a5 V) (a6 V) (a7 V) := by
  unfold second
  rw [← v20_eq]
  unfold res_main_v127 res_main_v113 res_main_v52 res_main_v51 res_main_v26 res_main_v25
  generalize res_main_v20 V = h
  rfl

theorem v231_eq : res_main_v231 V = third activation (a0 V) (a1 V) (a2 V) (a3 V) (a4 V) (a5 V) (a6 V) (a7 V) (a8 V) := by
  unfold third
  rw [← v127_eq]
  unfold res_main_v231 res_main_v220 res_main_v159 res_main_v158 res_main_v133 res_main_v132
  generalize res_main_v127 V = h
  rfl

theorem v242_eq : res_main_v242 V = odds activation (a0 V) (a1 V) (a2 V) (a3 V) (a4 V) (a5 V) (a6 V) (a7 V) (a8 V) := by
  unfold odds
  rw [← v231_eq]
  unfold res_main_v242 res_main_v238
  generalize res_main_v231 V = h
  rfl

/-- The second result is the chosen experts' numbers. -/
theorem indices_eq : res_main_indices V
    = resI activation (a0 V) (a1 V) (a2 V) (a3 V) (a4 V) (a5 V) (a6 V) (a7 V) (a8 V) (a9 V) := by
  rw [← second_result, ← v242_eq]
  unfold res_main_indices res_main_v245
  generalize res_main_v242 V = h
  rfl

/-- The first result is the chosen experts' probabilities. -/
theorem taken_eq : taken (res_main_v242 V) (res_main_call8_v5 V)
    = resP activation (a0 V) (a1 V) (a2 V) (a3 V) (a4 V) (a5 V) (a6 V) (a7 V) (a8 V) (a9 V) := by
  rw [← first_result, second_result, ← indices_eq, ← v242_eq]
  unfold res_main_call8_v5
  generalize res_main_v242 V = h
  generalize res_main_indices V = i
  rfl

/-- The third result is the down projection. -/
theorem hidden_eq : res_main_v3 V = resH (a0 V) (a1 V) (a2 V) := by
  rw [v3_eq, third_result]

/-- Every execution ends with the three results and the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v246)
        = resP activation (a0 (launchContents m c)) (a1 (launchContents m c)) (a2 (launchContents m c)) (a3 (launchContents m c))
          (a4 (launchContents m c)) (a5 (launchContents m c)) (a6 (launchContents m c)) (a7 (launchContents m c))
          (a8 (launchContents m c)) (a9 (launchContents m c))
      ∧ r.2.mem ((c.tc : Thread nD τ).loc main_indices)
        = resI activation (a0 (launchContents m c)) (a1 (launchContents m c)) (a2 (launchContents m c)) (a3 (launchContents m c))
          (a4 (launchContents m c)) (a5 (launchContents m c)) (a6 (launchContents m c)) (a7 (launchContents m c))
          (a8 (launchContents m c)) (a9 (launchContents m c))
      ∧ r.2.mem ((c.tc : Thread nD τ).loc main_v3)
        = resH (a0 (launchContents m c)) (a1 (launchContents m c)) (a2 (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨(h c).1.trans (taken_eq (launchContents m c)), (h c).2.1.trans (indices_eq (launchContents m c)),
    (h c).2.2.1.trans (hidden_eq (launchContents m c)), (h c).2.2.2⟩) (Value.run (F := Ideal) m ρ)

end Cert.ReferenceIdeal.Out
end
-- ==== Proof.KernelArrays.lean ====
/- The arrays that the kernel leaves: the blocks its two launches write, put together. -/
module

public import proofs.«01_k».proof.Proof.Whole
public import proofs.«01_k».proof.Proof.KernelOut
public import Idealize.ShloMosaic.Lib.Pipeline.ValueKit

@[expose] public section

set_option maxRecDepth 16384

noncomputable section

namespace Cert.KernelIdeal.Out

open Idealize.ShloMosaic Idealize.ShloMosaic.TcCoe Idealize.SL.Sem
open Cert.Router Cert.KernelIdeal Cert.KernelIdeal.Gen

variable (V : (c : Dev nD) → (b : Ref sig .tc) → Buf (Elt Ideal) ((c : Thread nD τ).loc b))

/-- The block each window of the first launch is at. -/
theorem idx0 : ∀ t : Fin cfg0.N, win0_0.index t = ![t.val, 0] ∧ win0_1.index t = ![0, 0] ∧ win0_2.index t = ![0, 0] ∧
    win0_3.index t = ![t.val, 0] :=
  (by decide +kernel : ∀ t : Fin grid0.N, _)

/-- The first launch's result is the down projection. -/
theorem final0 (c : Dev nD) (x : Mat 16384 4096) (W : Mat 4096 2048) (b : Mat 1 2048) (hx : V c main_arg0 = x)
    (hW : V c main_arg1 = W) (hb : V c main_v0 = b) : (dat0 V c).arrAt 3 cfg0.N =
      fun i => (∑ k : Fin 4096, x (ix2 (i 0) k) * W (ix2 k (i 1))) + b (ix2 0 (i 1)) := by
  subst hx hW hb
  refine (dat0 V c).arrAt_eq_of_covers 3 _ (by decide +kernel) fun t _ y => ?_
  blk_simp
  rw [after0_3, out0_eq]
  refine (congrArg _ (eq_ix2 y)).trans ((down_apply _ _ _ (y 0) (y 1)).trans ?_)
  blk_point [iblk0, idx0 t]

/-- The block each window of the second launch is at. -/
theorem idx1 : ∀ t : Fin cfg1.N, win1_0.index t = ![t.val, 0] ∧ win1_1.index t = ![t.val, 0] ∧ win1_2.index t = ![0, 0] ∧
    win1_3.index t = ![0, 0] ∧ win1_4.index t = ![0, 0] ∧ win1_5.index t = ![0, 0] ∧ win1_6.index t = ![0, 0] ∧
    win1_7.index t = ![0, 0] ∧ win1_8.index t = ![0, 0] ∧ win1_9.index t = ![t.val, 0] ∧ win1_10.index t = ![t.val, 0] ∧
    t.val < 64 :=
  (by decide +kernel : ∀ t : Fin grid1.N, _)

/-- The array's row at row `q` of grid point `t`'s block. -/
def row (t : Fin cfg1.N) (q : Fin 256) : Fin 16384 :=
  ⟨t.val * 256 + q.val, by have := (idx1 t).2.2.2.2.2.2.2.2.2.2.2; omega⟩

/-- The probabilities of the array's row `r`. -/
def P (h : Mat 16384 2048) (v : Mat 16384 1) (w : Mat 1 2048) (W1 : Mat 2048 2048) (b1 : Mat 1 2048) (W2 : Mat 2048 2048)
    (b2 : Mat 1 2048) (W3 : Mat 2048 64) (r : Fin 16384) : Fin 64 → EReal :=
  gates gelu (fun j => h (ix2 r j)) (v (ix2 r 0)) (fun j => w (ix2 0 j)) (fun i j => W1 (ix2 i j)) (fun j => b1 (ix2 0 j))
    (fun i j => W2 (ix2 i j)) (fun j => b2 (ix2 0 j)) (fun i j => W3 (ix2 i j))

/-- What a point's body computes of its blocks are the probabilities of the array's rows. -/
theorem routed_blk (c : Dev nD) (t : Fin cfg1.N) (q : Fin 256) (e : Fin 64) :
    routed gelu (iblk1 V c 0 t) (iblk1 V c 1 t) (iblk1 V c 2 t) (iblk1 V c 3 t) (iblk1 V c 4 t) (iblk1 V c 5 t)
      (iblk1 V c 6 t) (iblk1 V c 7 t) (ix2 q e) =
    P (V c main_v1) (V c main_v6) (V c main_v7) (V c main_arg4) (V c main_v8) (V c main_arg6) (V c main_v9) (V c main_arg8)
      (row t q) e := by
  have h0 : ∀ j, iblk1 V c 0 t (ix2 q j) = V c main_v1 (ix2 (row t q) j) := fun j => by blk_ext [iblk1, row, idx1 t]
  have h1 : iblk1 V c 1 t (ix2 q 0) = V c main_v6 (ix2 (row t q) 0) := by blk_ext [iblk1, row, idx1 t]
  have h2 : ∀ j, iblk1 V c 2 t (ix2 0 j) = V c main_v7 (ix2 0 j) := fun j => by blk_ext [iblk1, idx1 t]
  have h3 : ∀ i j, iblk1 V c 3 t (ix2 i j) = V c main_arg4 (ix2 i j) := fun i j => by blk_ext [iblk1, idx1 t]
  have h4 : ∀ j, iblk1 V c 4 t (ix2 0 j) = V c main_v8 (ix2 0 j) := fun j => by blk_ext [iblk1, idx1 t]
  have h5 : ∀ i j, iblk1 V c 5 t (ix2 i j) = V c main_arg6 (ix2 i j) := fun i j => by blk_ext [iblk1, idx1 t]
  have h6 : ∀ j, iblk1 V c 6 t (ix2 0 j) = V c main_v9 (ix2 0 j) := fun j => by blk_ext [iblk1, idx1 t]
  have h7 : ∀ i j, iblk1 V c 7 t (ix2 i j) = V c main_arg8 (ix2 i j) := fun i j => by blk_ext [iblk1, idx1 t]
  refine (routed_apply gelu _ _ _ _ _ _ _ _ q e).trans ?_
  simp only [h0, h1, h2, h3, h4, h5, h6, h7]
  rfl

/-- Where an element of an output's block is in its array. -/
theorem emb9 (t : Fin cfg1.N) (q : Fin 256) (k : Fin 8) : (win1_9.blk t).view.emb (ix2 q k) = ix2 (row t q) k := by
  blk_ext [row, idx1 t]
theorem emb10 (t : Fin cfg1.N) (q : Fin 256) (k : Fin 8) : (win1_10.blk t).view.emb (ix2 q k) = ix2 (row t q) k := by
  blk_ext [row, idx1 t]

/-- The second launch's first result: the chosen experts' probabilities. -/
theorem final9 (c : Dev nD) (p : Fin 16384 → Fin 64 → EReal) (b : Fin 64 → EReal)
    (hp : ∀ r e, P (V c main_v1) (V c main_v6) (V c main_v7) (V c main_arg4) (V c main_v8) (V c main_arg6) (V c main_v9)
      (V c main_arg8) r e = p r e) (hb : ∀ e, V c main_v10 (ix2 0 e) = b e) (hne : ∀ r e, p r e + b e ≠ ⊥) :
    (dat1 V c).arrAt 9 cfg1.N = fun i => p (i 0) (expert (p (i 0)) b (i 1)) := by
  refine (dat1 V c).arrAt_eq_of_covers 9 _ (by decide +kernel) fun t _ y => ?_
  blk_simp
  rw [after1_9, out9_eq]
  have hb' : ∀ e, iblk1 V c 8 t (ix2 0 e) = b e := fun e =>
    Eq.trans (b := V c main_v10 (ix2 0 e)) (by blk_ext [iblk1, idx1 t]) (hb e)
  obtain ⟨q, k, rfl⟩ : ∃ (q : Fin 256) (k : Fin 8), y = ix2 q k := ⟨y 0, y 1, eq_ix2 y⟩
  have hr := fun e => (routed_blk V c t q e).trans (hp (row t q) e)
  refine (outP_apply _ _ q k ?_).trans ?_
  · intro e
    rw [hr, hb']
    exact hne _ e
  · simp only [hr, hb']
    rw [emb9]
    rfl

/-- The second launch's second result: the chosen experts' numbers. -/
theorem final10 (c : Dev nD) (p : Fin 16384 → Fin 64 → EReal) (b : Fin 64 → EReal)
    (hp : ∀ r e, P (V c main_v1) (V c main_v6) (V c main_v7) (V c main_arg4) (V c main_v8) (V c main_arg6) (V c main_v9)
      (V c main_arg8) r e = p r e) (hb : ∀ e, V c main_v10 (ix2 0 e) = b e) (hne : ∀ r e, p r e + b e ≠ ⊥) :
    (dat1 V c).arrAt 10 cfg1.N = fun i => BitVec.ofNat 32 (expert (p (i 0)) b (i 1)) := by
  refine (dat1 V c).arrAt_eq_of_covers 10 _ (by decide +kernel) fun t _ y => ?_
  blk_simp
  rw [after1_10, out10_eq]
  have hb' : ∀ e, iblk1 V c 8 t (ix2 0 e) = b e := fun e =>
    Eq.trans (b := V c main_v10 (ix2 0 e)) (by blk_ext [iblk1, idx1 t]) (hb e)
  obtain ⟨q, k, rfl⟩ : ∃ (q : Fin 256) (k : Fin 8), y = ix2 q k := ⟨y 0, y 1, eq_ix2 y⟩
  have hr := fun e => (routed_blk V c t q e).trans (hp (row t q) e)
  refine (outI_apply _ _ q k ?_).trans ?_
  · intro e
    rw [hr, hb']
    exact hne _ e
  · simp only [hr, hb']
    rw [emb10]
    rfl

end Cert.KernelIdeal.Out
end
-- ==== Proof.KernelRun.lean ====
/- The run of `KernelIdeal` read whole: every final state has each unscoped buffer at the last segment's contents. -/
module

public import proofs.«01_k».proof.Proof.Gen.KernelIdeal.Frame

@[expose] public section

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions in a metavariable's type
set_option backward.isDefEq.respectTransparency.types false in
/-- From any memory with zero counters every execution terminates, and every final state has each unscoped buffer at the
    contents `W4` the segments leave it with. -/
theorem run_whole : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.KernelIdeal.Out
end
-- ==== Proof.KernelValue.lean ====
/- The results the kernel leaves, as the router's functions of the argument arrays. -/
module

public import proofs.«01_k».proof.Proof.KernelArrays
public import proofs.«01_k».proof.Proof.KernelRun
public import Idealize.ShloMosaic.Lib.Claim
public import Idealize.ShloMosaic.Lib.ValueLayout

@[expose] public section

set_option maxRecDepth 16384

noncomputable section

namespace Cert.KernelIdeal.Out

open Idealize.ShloMosaic Idealize.ShloMosaic.TcCoe Idealize.SL.Sem
open Cert.Router Cert.KernelIdeal Cert.KernelIdeal.Gen

variable (m : (ℓ : Loc nD τ sig) → Buf (Elt Ideal) ℓ) (ρ : Dev nD → PrngReg) (c : Dev nD)

/-- The arguments as matrices and vectors. -/
abbrev a0 : Mat 16384 4096 := m ((c : Thread nD τ).loc main_arg0)
abbrev a1 : Mat 4096 2048 := m ((c : Thread nD τ).loc main_arg1)
abbrev a2 : Vec 2048 := m ((c : Thread nD τ).loc main_arg2)
abbrev a3 : Vec 2048 := m ((c : Thread nD τ).loc main_arg3)
abbrev a4 : Mat 2048 2048 := m ((c : Thread nD τ).loc main_arg4)
abbrev a5 : Vec 2048 := m ((c : Thread nD τ).loc main_arg5)
abbrev a6 : Mat 2048 2048 := m ((c : Thread nD τ).loc main_arg6)
abbrev a7 : Vec 2048 := m ((c : Thread nD τ).loc main_arg7)
abbrev a8 : Mat 2048 64 := m ((c : Thread nD τ).loc main_arg8)
abbrev a9 : Vec 64 := m ((c : Thread nD τ).loc main_arg9)

theorem sc1 : (⟨1, ![2048]⟩ : Shape).ShapeCasts ⟨2, ![1, 2048]⟩ := by decide
theorem sc64 : (⟨1, ![64]⟩ : Shape).ShapeCasts ⟨2, ![1, 64]⟩ := by decide

theorem v0_eq : (V1 m ρ c main_v0 : Mat 1 2048) = shapeCast _ (a2 m c) sc1 := by
  show StableHlo.after _ _ _ = _
  entry_read
  rfl

/-- The down projection, as the first launch leaves it. -/
theorem v1_eq : (V2 m ρ c main_v1 : Mat 16384 2048) = resH (a0 m c) (a1 m c) (a2 m c) := by
  refine (W2_arr m ρ c 3).trans ((final0 (V1 m ρ) c (a0 m c) (a1 m c) _ (W1_args m ρ c main_arg0 (by decide))
    (W1_args m ρ c main_arg1 (by decide)) (v0_eq m ρ c)).trans ?_)
  funext i
  exact congrArg (_ + ·) (ValueIdx.shapeCast_a_1a_apply _ _ 0 (i 1))

/-- The mean of the squares of each row of the down projection, as the host computes it. -/
theorem v6_eq (h : Mat 16384 2048) (hh : W2 m ρ c (Proc.devRef .tc main_v1) = h) :
    (V3 m ρ c main_v6 : Mat 16384 1) = Host.divf (broadcastInDim S16384x1 ![0] bcast_S16384_S16384x1_0
      (Host.reduceAdd (mulf h h : FVec Ideal S16384x2048 .f32) (constant (F := Ideal) S_ .f32 0x00000000#32) reducesTo_S16384x2048_S16384_d1 h_S_ : FVec Ideal S16384 .f32))
      (broadcastInDim S16384x1 ![] bcast_S_S16384x1 (constant (F := Ideal) S_ .f32 0x45000000#32)) := by
  show StableHlo.after hostOps1 _ _ = _
  entry_read
  rw [hh]

theorem v6_apply (h : Mat 16384 2048) (hh : W2 m ρ c (Proc.devRef .tc main_v1) = h) (r : Fin 16384) :
    (V3 m ρ c main_v6 : Mat 16384 1) (ix2 r 0) = meanSquare (fun j => h (ix2 r j)) := by
  rw [v6_eq m ρ c h hh]
  unfold meanSquare
  pointwise

theorem v7_eq : (V3 m ρ c main_v7 : Mat 1 2048) = shapeCast _ (a3 m c) sc1 := by
  refine Eq.trans ?_ (congrArg (fun x : Vec 2048 => shapeCast _ x sc1) (W2_args m ρ c main_arg3 (by decide)))
  show StableHlo.after hostOps1 _ _ = _
  entry_read
  rfl
theorem v8_eq : (V3 m ρ c main_v8 : Mat 1 2048) = shapeCast _ (a5 m c) sc1 := by
  refine Eq.trans ?_ (congrArg (fun x : Vec 2048 => shapeCast _ x sc1) (W2_args m ρ c main_arg5 (by decide)))
  show StableHlo.after hostOps1 _ _ = _
  entry_read
  rfl
theorem v9_eq : (V3 m ρ c main_v9 : Mat 1 2048) = shapeCast _ (a7 m c) sc1 := by
  refine Eq.trans ?_ (congrArg (fun x : Vec 2048 => shapeCast _ x sc1) (W2_args m ρ c main_arg7 (by decide)))
  show StableHlo.after hostOps1 _ _ = _
  entry_read
  rfl
theorem v10_eq : (V3 m ρ c main_v10 : Mat 1 64) = shapeCast _ (a9 m c) sc64 := by
  refine Eq.trans ?_ (congrArg (fun x : Vec 64 => shapeCast _ x sc64) (W2_args m ρ c main_arg9 (by decide)))
  show StableHlo.after hostOps1 _ _ = _
  entry_read
  rfl

/-- The probabilities of the second launch's row `r`. -/
theorem P_eq (r : Fin 16384) (e : Fin 64) :
    P (V3 m ρ c main_v1) (V3 m ρ c main_v6) (V3 m ρ c main_v7) (V3 m ρ c main_arg4) (V3 m ρ c main_v8) (V3 m ρ c main_arg6)
      (V3 m ρ c main_v9) (V3 m ρ c main_arg8) r e =
    probs gelu (a3 m c) (a4 m c) (a5 m c) (a6 m c) (a7 m c) (a8 m c) (hidden (a0 m c) (a1 m c) (a2 m c) r) e := by
  have h1 : (V3 m ρ c main_v1 : Mat 16384 2048) = resH (a0 m c) (a1 m c) (a2 m c) :=
    (W3_of m ρ c main_v1 (by decide)).trans (v1_eq m ρ c)
  have h6 := v6_apply m ρ c _ (v1_eq m ρ c) r
  have h4 : V3 m ρ c main_arg4 = a4 m c := W3_args m ρ c main_arg4 (by decide)
  have h5 : V3 m ρ c main_arg6 = a6 m c := W3_args m ρ c main_arg6 (by decide)
  have h8 : V3 m ρ c main_arg8 = a8 m c := W3_args m ρ c main_arg8 (by decide)
  unfold P
  have hc : ∀ (x : Vec 2048) (j : Fin 2048), shapeCast _ x sc1 (ix2 0 j) = x (ix1 j) := fun x j =>
    ValueIdx.shapeCast_a_1a_apply x sc1 0 j
  have h7 : (fun j => (V3 m ρ c main_v7 : Mat 1 2048) (ix2 0 j)) = fun j => a3 m c (ix1 j) := by
    funext j
    rw [v7_eq]
    exact hc _ j
  have h8' : (fun j => (V3 m ρ c main_v8 : Mat 1 2048) (ix2 0 j)) = fun j => a5 m c (ix1 j) := by
    funext j
    rw [v8_eq]
    exact hc _ j
  have h9 : (fun j => (V3 m ρ c main_v9 : Mat 1 2048) (ix2 0 j)) = fun j => a7 m c (ix1 j) := by
    funext j
    rw [v9_eq]
    exact hc _ j
  rw [h1, h6, h7, h8', h9, h4, h5, h8]
  rfl

/-- The three results at the end. -/
theorem w1_eq : (W4 m ρ c (Proc.devRef .tc main_v1) : Mat 16384 2048) = resH (a0 m c) (a1 m c) (a2 m c) := by
  rw [W4_of m ρ c main_v1 (by decide), W3_of m ρ c main_v1 (by decide)]
  exact v1_eq m ρ c

theorem b_eq (e : Fin 64) : (V3 m ρ c main_v10 : Mat 1 64) (ix2 0 e) = a9 m c (ix1 e) := by
  rw [v10_eq]
  exact ValueIdx.shapeCast_a_1a_apply _ _ 0 e

theorem w9_eq (hne : Apart gelu (a0 m c) (a1 m c) (a2 m c) (a3 m c) (a4 m c) (a5 m c) (a6 m c) (a7 m c) (a8 m c) (a9 m c)) :
    (W4 m ρ c (Proc.devRef .tc main_v11_0) : Mat 16384 8) =
      resP gelu (a0 m c) (a1 m c) (a2 m c) (a3 m c) (a4 m c) (a5 m c) (a6 m c) (a7 m c) (a8 m c) (a9 m c) := by
  refine (W4_arr m ρ c 9).trans ?_
  rw [final9 (V3 m ρ) c _ _ (P_eq m ρ c) (b_eq m ρ c) hne]
  rfl

theorem w10_eq (hne : Apart gelu (a0 m c) (a1 m c) (a2 m c) (a3 m c) (a4 m c) (a5 m c) (a6 m c) (a7 m c) (a8 m c) (a9 m c)) :
    (W4 m ρ c (Proc.devRef .tc main_v11_1) : IV 16384 8 32) =
      resI gelu (a0 m c) (a1 m c) (a2 m c) (a3 m c) (a4 m c) (a5 m c) (a6 m c) (a7 m c) (a8 m c) (a9 m c) := by
  refine (W4_arr m ρ c 10).trans ?_
  rw [final10 (V3 m ρ) c _ _ (P_eq m ρ c) (b_eq m ρ c) hne]
  rfl

/-- From any memory with no probability plus its bias at ⊥ the kernel runs to its end, the results are the router's, and the
    arguments are unchanged. -/
theorem run (hne : ∀ c, Apart gelu (a0 m c) (a1 m c) (a2 m c) (a3 m c) (a4 m c) (a5 m c) (a6 m c) (a7 m c) (a8 m c) (a9 m c)) :
    θ_run defs (onTc (τ := τ) (main (F := Ideal))) ⟨m, fun _ => 0, ρ⟩ (fun r => ∀ c : Dev nD,
      r.2.mem ((c.tc : Thread nD τ).loc main_v11_0) =
        resP gelu (a0 m c) (a1 m c) (a2 m c) (a3 m c) (a4 m c) (a5 m c) (a6 m c) (a7 m c) (a8 m c) (a9 m c)
      ∧ r.2.mem ((c.tc : Thread nD τ).loc main_v11_1) =
        resI gelu (a0 m c) (a1 m c) (a2 m c) (a3 m c) (a4 m c) (a5 m c) (a6 m c) (a7 m c) (a8 m c) (a9 m c)
      ∧ r.2.mem ((c.tc : Thread nD τ).loc main_v1) = resH (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine θ_run_mono (run_whole m ρ) fun r h c => ?_
  refine ⟨?_, ?_, ?_, ?_, ?_, ?_, ?_, ?_, ?_, ?_, ?_, ?_, ?_⟩
  · exact (h c _ (mem_uc main_v11_0 (by decide))).trans (w9_eq m ρ c (hne c))
  · exact (h c _ (mem_uc main_v11_1 (by decide))).trans (w10_eq m ρ c (hne c))
  · exact (h c _ (mem_uc main_v1 (by decide))).trans (w1_eq m ρ c)
  · exact (h c _ (mem_uc main_arg0 (by decide))).trans (W4_args m ρ c main_arg0 (by decide))
  · exact (h c _ (mem_uc main_arg1 (by decide))).trans (W4_args m ρ c main_arg1 (by decide))
  · exact (h c _ (mem_uc main_arg2 (by decide))).trans (W4_args m ρ c main_arg2 (by decide))
  · exact (h c _ (mem_uc main_arg3 (by decide))).trans (W4_args m ρ c main_arg3 (by decide))
  · exact (h c _ (mem_uc main_arg4 (by decide))).trans (W4_args m ρ c main_arg4 (by decide))
  · exact (h c _ (mem_uc main_arg5 (by decide))).trans (W4_args m ρ c main_arg5 (by decide))
  · exact (h c _ (mem_uc main_arg6 (by decide))).trans (W4_args m ρ c main_arg6 (by decide))
  · exact (h c _ (mem_uc main_arg7 (by decide))).trans (W4_args m ρ c main_arg7 (by decide))
  · exact (h c _ (mem_uc main_arg8 (by decide))).trans (W4_args m ρ c main_arg8 (by decide))
  · exact (h c _ (mem_uc main_arg9 (by decide))).trans (W4_args m ρ c main_arg9 (by decide))

end Cert.KernelIdeal.Out
end
-- ==== Proof.KernelClaim.lean ====
/- The value claim of KernelIdeal against ReferenceIdeal: on router weights without infinities both end with the same three results. -/
module

public import proofs.«01_k».proof.Defs
public import proofs.«01_k».proof.Proof.Gen.Kernel
public import proofs.«01_k».proof.Proof.Gen.KernelErf
public import proofs.«01_k».proof.Proof.Same
public import proofs.«01_k».proof.Proof.Congr
public import proofs.«01_k».proof.Proof.Pre
public import proofs.«01_k».proof.Proof.HostRational
public import proofs.«01_k».proof.Proof.KernelValue

@[expose] public section

noncomputable section

namespace Cert.KernelIdeal.Out

open Idealize.ShloMosaic Idealize.ShloMosaic.TcCoe Idealize.SL.Sem Idealize.ShloMosaic.StableHlo Cert.Router

/-- The reference's activation gives the kernel's results under the precondition, and the kernel's search by maxima finds them. -/
theorem same (m : (ℓ : Loc nD τ sig) → Buf (Elt Ideal) ℓ) (hpre : Cert.Pre_KernelIdeal_finite m) (c : Dev nD) :
    Apart gelu (a0 m c) (a1 m c) (a2 m c) (a3 m c) (a4 m c) (a5 m c) (a6 m c) (a7 m c) (a8 m c) (a9 m c)
    ∧ resP gelu (a0 m c) (a1 m c) (a2 m c) (a3 m c) (a4 m c) (a5 m c) (a6 m c) (a7 m c) (a8 m c) (a9 m c)
      = resP activation (a0 m c) (a1 m c) (a2 m c) (a3 m c) (a4 m c) (a5 m c) (a6 m c) (a7 m c) (a8 m c) (a9 m c)
    ∧ resI gelu (a0 m c) (a1 m c) (a2 m c) (a3 m c) (a4 m c) (a5 m c) (a6 m c) (a7 m c) (a8 m c) (a9 m c)
      = resI activation (a0 m c) (a1 m c) (a2 m c) (a3 m c) (a4 m c) (a5 m c) (a6 m c) (a7 m c) (a8 m c) (a9 m c) := by
  obtain ⟨h3, h4, h5, h6, h7, h8, h9⟩ := of_pre (a0 m c) (a1 m c) (a2 m c) (a3 m c) (a4 m c) (a5 m c) (a6 m c)
    (a7 m c) (a8 m c) (a9 m c) (hpre c)
  exact results_congr gelu_eq isReal_gelu h3 h4 h5 h6 h7 h8 h9

/-- The value claim. -/
theorem algebraic : Cert.algebraic_KernelIdeal_ReferenceIdeal_pre_finite := by
  intro m g m' g' hpre hagree
  refine ⟨fun c => resP gelu (a0 m c) (a1 m c) (a2 m c) (a3 m c) (a4 m c) (a5 m c) (a6 m c) (a7 m c) (a8 m c) (a9 m c),
    fun c => resI gelu (a0 m c) (a1 m c) (a2 m c) (a3 m c) (a4 m c) (a5 m c) (a6 m c) (a7 m c) (a8 m c) (a9 m c),
    fun c => resH (a0 m c) (a1 m c) (a2 m c), run m g fun c => (same m hpre c).1, ?_⟩
  refine θ_run_mono (Cert.ReferenceIdeal.Out.run m' g') fun r h c => ?_
  obtain ⟨h0, h1, h2, hr⟩ := h c
  obtain ⟨e0, e1, e2, e3, e4, e5, e6, e7, e8, e9⟩ := hagree c
  have E0 : Cert.ReferenceIdeal.Out.a0 (launchContents m' c) = a0 m c := e0
  have E1 : Cert.ReferenceIdeal.Out.a1 (launchContents m' c) = a1 m c := e1
  have E2 : Cert.ReferenceIdeal.Out.a2 (launchContents m' c) = a2 m c := e2
  have E3 : Cert.ReferenceIdeal.Out.a3 (launchContents m' c) = a3 m c := e3
  have E4 : Cert.ReferenceIdeal.Out.a4 (launchContents m' c) = a4 m c := e4
  have E5 : Cert.ReferenceIdeal.Out.a5 (launchContents m' c) = a5 m c := e5
  have E6 : Cert.ReferenceIdeal.Out.a6 (launchContents m' c) = a6 m c := e6
  have E7 : Cert.ReferenceIdeal.Out.a7 (launchContents m' c) = a7 m c := e7
  have E8 : Cert.ReferenceIdeal.Out.a8 (launchContents m' c) = a8 m c := e8
  have E9 : Cert.ReferenceIdeal.Out.a9 (launchContents m' c) = a9 m c := e9
  have hs := same m hpre c
  exact ⟨h0.trans ((congrP E0 E1 E2 E3 E4 E5 E6 E7 E8 E9).trans hs.2.1.symm),
    h1.trans ((congrI E0 E1 E2 E3 E4 E5 E6 E7 E8 E9).trans hs.2.2.symm), h2.trans (congrH E0 E1 E2), hr⟩

end Cert.KernelIdeal.Out
end
-- ==== Proof.KernelErfArrays.lean ====
/- The arrays that the kernel with `erf` leaves: the blocks its two launches write, put together. -/
module

public import proofs.«01_k».proof.Proof.Whole
public import proofs.«01_k».proof.Proof.ErfOut
public import Idealize.ShloMosaic.Lib.Pipeline.ValueKit

@[expose] public section

set_option maxRecDepth 16384

noncomputable section

namespace Cert.KernelErfIdeal.Out

open Idealize.ShloMosaic Idealize.ShloMosaic.TcCoe Idealize.SL.Sem
open Cert.Router Cert.KernelErfIdeal Cert.KernelErfIdeal.Gen

variable (V : (c : Dev nD) → (b : Ref sig .tc) → Buf (Elt Ideal) ((c : Thread nD τ).loc b))

/-- The block each window of the first launch is at. -/
theorem idx0 : ∀ t : Fin cfg0.N, win0_0.index t = ![t.val, 0] ∧ win0_1.index t = ![0, 0] ∧ win0_2.index t = ![0, 0] ∧
    win0_3.index t = ![t.val, 0] :=
  (by decide +kernel : ∀ t : Fin grid0.N, _)

/-- The first launch's result is the down projection. -/
theorem final0 (c : Dev nD) (x : Mat 16384 4096) (W : Mat 4096 2048) (b : Mat 1 2048) (hx : V c main_arg0 = x)
    (hW : V c main_arg1 = W) (hb : V c main_v0 = b) : (dat0 V c).arrAt 3 cfg0.N =
      fun i => (∑ k : Fin 4096, x (ix2 (i 0) k) * W (ix2 k (i 1))) + b (ix2 0 (i 1)) := by
  subst hx hW hb
  refine (dat0 V c).arrAt_eq_of_covers 3 _ (by decide +kernel) fun t _ y => ?_
  blk_simp
  rw [after0_3, out0_eq]
  refine (congrArg _ (eq_ix2 y)).trans ((down_apply _ _ _ (y 0) (y 1)).trans ?_)
  blk_point [iblk0, idx0 t]

/-- The block each window of the second launch is at. -/
theorem idx1 : ∀ t : Fin cfg1.N, win1_0.index t = ![t.val, 0] ∧ win1_1.index t = ![t.val, 0] ∧ win1_2.index t = ![0, 0] ∧
    win1_3.index t = ![0, 0] ∧ win1_4.index t = ![0, 0] ∧ win1_5.index t = ![0, 0] ∧ win1_6.index t = ![0, 0] ∧
    win1_7.index t = ![0, 0] ∧ win1_8.index t = ![0, 0] ∧ win1_9.index t = ![t.val, 0] ∧ win1_10.index t = ![t.val, 0] ∧
    t.val < 64 :=
  (by decide +kernel : ∀ t : Fin grid1.N, _)

/-- The array's row at row `q` of grid point `t`'s block. -/
def row (t : Fin cfg1.N) (q : Fin 256) : Fin 16384 :=
  ⟨t.val * 256 + q.val, by have := (idx1 t).2.2.2.2.2.2.2.2.2.2.2; omega⟩

/-- The probabilities of the array's row `r`. -/
def P (h : Mat 16384 2048) (v : Mat 16384 1) (w : Mat 1 2048) (W1 : Mat 2048 2048) (b1 : Mat 1 2048) (W2 : Mat 2048 2048)
    (b2 : Mat 1 2048) (W3 : Mat 2048 64) (r : Fin 16384) : Fin 64 → EReal :=
  gates gelu (fun j => h (ix2 r j)) (v (ix2 r 0)) (fun j => w (ix2 0 j)) (fun i j => W1 (ix2 i j)) (fun j => b1 (ix2 0 j))
    (fun i j => W2 (ix2 i j)) (fun j => b2 (ix2 0 j)) (fun i j => W3 (ix2 i j))

/-- What a point's body computes of its blocks are the probabilities of the array's rows. -/
theorem routed_blk (c : Dev nD) (t : Fin cfg1.N) (q : Fin 256) (e : Fin 64) :
    routed gelu (iblk1 V c 0 t) (iblk1 V c 1 t) (iblk1 V c 2 t) (iblk1 V c 3 t) (iblk1 V c 4 t) (iblk1 V c 5 t)
      (iblk1 V c 6 t) (iblk1 V c 7 t) (ix2 q e) =
    P (V c main_v1) (V c main_v6) (V c main_v7) (V c main_arg4) (V c main_v8) (V c main_arg6) (V c main_v9) (V c main_arg8)
      (row t q) e := by
  have h0 : ∀ j, iblk1 V c 0 t (ix2 q j) = V c main_v1 (ix2 (row t q) j) := fun j => by blk_ext [iblk1, row, idx1 t]
  have h1 : iblk1 V c 1 t (ix2 q 0) = V c main_v6 (ix2 (row t q) 0) := by blk_ext [iblk1, row, idx1 t]
  have h2 : ∀ j, iblk1 V c 2 t (ix2 0 j) = V c main_v7 (ix2 0 j) := fun j => by blk_ext [iblk1, idx1 t]
  have h3 : ∀ i j, iblk1 V c 3 t (ix2 i j) = V c main_arg4 (ix2 i j) := fun i j => by blk_ext [iblk1, idx1 t]
  have h4 : ∀ j, iblk1 V c 4 t (ix2 0 j) = V c main_v8 (ix2 0 j) := fun j => by blk_ext [iblk1, idx1 t]
  have h5 : ∀ i j, iblk1 V c 5 t (ix2 i j) = V c main_arg6 (ix2 i j) := fun i j => by blk_ext [iblk1, idx1 t]
  have h6 : ∀ j, iblk1 V c 6 t (ix2 0 j) = V c main_v9 (ix2 0 j) := fun j => by blk_ext [iblk1, idx1 t]
  have h7 : ∀ i j, iblk1 V c 7 t (ix2 i j) = V c main_arg8 (ix2 i j) := fun i j => by blk_ext [iblk1, idx1 t]
  refine (routed_apply gelu _ _ _ _ _ _ _ _ q e).trans ?_
  simp only [h0, h1, h2, h3, h4, h5, h6, h7]
  rfl

/-- Where an element of an output's block is in its array. -/
theorem emb9 (t : Fin cfg1.N) (q : Fin 256) (k : Fin 8) : (win1_9.blk t).view.emb (ix2 q k) = ix2 (row t q) k := by
  blk_ext [row, idx1 t]
theorem emb10 (t : Fin cfg1.N) (q : Fin 256) (k : Fin 8) : (win1_10.blk t).view.emb (ix2 q k) = ix2 (row t q) k := by
  blk_ext [row, idx1 t]

/-- The second launch's first result: the chosen experts' probabilities. -/
theorem final9 (c : Dev nD) (p : Fin 16384 → Fin 64 → EReal) (b : Fin 64 → EReal)
    (hp : ∀ r e, P (V c main_v1) (V c main_v6) (V c main_v7) (V c main_arg4) (V c main_v8) (V c main_arg6) (V c main_v9)
      (V c main_arg8) r e = p r e) (hb : ∀ e, V c main_v10 (ix2 0 e) = b e) (hne : ∀ r e, p r e + b e ≠ ⊥) :
    (dat1 V c).arrAt 9 cfg1.N = fun i => p (i 0) (expert (p (i 0)) b (i 1)) := by
  refine (dat1 V c).arrAt_eq_of_covers 9 _ (by decide +kernel) fun t _ y => ?_
  blk_simp
  rw [after1_9, out9_eq]
  have hb' : ∀ e, iblk1 V c 8 t (ix2 0 e) = b e := fun e =>
    Eq.trans (b := V c main_v10 (ix2 0 e)) (by blk_ext [iblk1, idx1 t]) (hb e)
  obtain ⟨q, k, rfl⟩ : ∃ (q : Fin 256) (k : Fin 8), y = ix2 q k := ⟨y 0, y 1, eq_ix2 y⟩
  have hr := fun e => (routed_blk V c t q e).trans (hp (row t q) e)
  refine (outP_apply _ _ q k ?_).trans ?_
  · intro e
    rw [hr, hb']
    exact hne _ e
  · simp only [hr, hb']
    rw [emb9]
    rfl

/-- The second launch's second result: the chosen experts' numbers. -/
theorem final10 (c : Dev nD) (p : Fin 16384 → Fin 64 → EReal) (b : Fin 64 → EReal)
    (hp : ∀ r e, P (V c main_v1) (V c main_v6) (V c main_v7) (V c main_arg4) (V c main_v8) (V c main_arg6) (V c main_v9)
      (V c main_arg8) r e = p r e) (hb : ∀ e, V c main_v10 (ix2 0 e) = b e) (hne : ∀ r e, p r e + b e ≠ ⊥) :
    (dat1 V c).arrAt 10 cfg1.N = fun i => BitVec.ofNat 32 (expert (p (i 0)) b (i 1)) := by
  refine (dat1 V c).arrAt_eq_of_covers 10 _ (by decide +kernel) fun t _ y => ?_
  blk_simp
  rw [after1_10, out10_eq]
  have hb' : ∀ e, iblk1 V c 8 t (ix2 0 e) = b e := fun e =>
    Eq.trans (b := V c main_v10 (ix2 0 e)) (by blk_ext [iblk1, idx1 t]) (hb e)
  obtain ⟨q, k, rfl⟩ : ∃ (q : Fin 256) (k : Fin 8), y = ix2 q k := ⟨y 0, y 1, eq_ix2 y⟩
  have hr := fun e => (routed_blk V c t q e).trans (hp (row t q) e)
  refine (outI_apply _ _ q k ?_).trans ?_
  · intro e
    rw [hr, hb']
    exact hne _ e
  · simp only [hr, hb']
    rw [emb10]
    rfl

end Cert.KernelErfIdeal.Out
end
-- ==== Proof.KernelErfRun.lean ====
/- The run of `KernelErfIdeal` read whole: every final state has each unscoped buffer at the last segment's contents. -/
module

public import proofs.«01_k».proof.Proof.Gen.KernelErfIdeal.Frame

@[expose] public section

set_option maxRecDepth 16384

noncomputable section

namespace Cert.KernelErfIdeal.Out

open Cert.KernelErfIdeal Cert.KernelErfIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unfolding plain definitions in a metavariable's type
set_option backward.isDefEq.respectTransparency.types false in
/-- From any memory with zero counters every execution terminates, and every final state has each unscoped buffer at the
    contents `W4` the segments leave it with. -/
theorem run_whole : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => h)

end Cert.KernelErfIdeal.Out
end
-- ==== Proof.KernelErfValue.lean ====
/- The results the kernel with `erf` leaves, as the router's functions of the argument arrays. -/
module

public import proofs.«01_k».proof.Proof.KernelErfArrays
public import proofs.«01_k».proof.Proof.KernelErfRun
public import Idealize.ShloMosaic.Lib.Claim
public import Idealize.ShloMosaic.Lib.ValueLayout

@[expose] public section

set_option maxRecDepth 16384

noncomputable section

namespace Cert.KernelErfIdeal.Out

open Idealize.ShloMosaic Idealize.ShloMosaic.TcCoe Idealize.SL.Sem
open Cert.Router Cert.KernelErfIdeal Cert.KernelErfIdeal.Gen

variable (m : (ℓ : Loc nD τ sig) → Buf (Elt Ideal) ℓ) (ρ : Dev nD → PrngReg) (c : Dev nD)

/-- The arguments as matrices and vectors. -/
abbrev a0 : Mat 16384 4096 := m ((c : Thread nD τ).loc main_arg0)
abbrev a1 : Mat 4096 2048 := m ((c : Thread nD τ).loc main_arg1)
abbrev a2 : Vec 2048 := m ((c : Thread nD τ).loc main_arg2)
abbrev a3 : Vec 2048 := m ((c : Thread nD τ).loc main_arg3)
abbrev a4 : Mat 2048 2048 := m ((c : Thread nD τ).loc main_arg4)
abbrev a5 : Vec 2048 := m ((c : Thread nD τ).loc main_arg5)
abbrev a6 : Mat 2048 2048 := m ((c : Thread nD τ).loc main_arg6)
abbrev a7 : Vec 2048 := m ((c : Thread nD τ).loc main_arg7)
abbrev a8 : Mat 2048 64 := m ((c : Thread nD τ).loc main_arg8)
abbrev a9 : Vec 64 := m ((c : Thread nD τ).loc main_arg9)

theorem sc1 : (⟨1, ![2048]⟩ : Shape).ShapeCasts ⟨2, ![1, 2048]⟩ := by decide
theorem sc64 : (⟨1, ![64]⟩ : Shape).ShapeCasts ⟨2, ![1, 64]⟩ := by decide

theorem v0_eq : (V1 m ρ c main_v0 : Mat 1 2048) = shapeCast _ (a2 m c) sc1 := by
  show StableHlo.after _ _ _ = _
  entry_read
  rfl

/-- The down projection, as the first launch leaves it. -/
theorem v1_eq : (V2 m ρ c main_v1 : Mat 16384 2048) = resH (a0 m c) (a1 m c) (a2 m c) := by
  refine (W2_arr m ρ c 3).trans ((final0 (V1 m ρ) c (a0 m c) (a1 m c) _ (W1_args m ρ c main_arg0 (by decide))
    (W1_args m ρ c main_arg1 (by decide)) (v0_eq m ρ c)).trans ?_)
  funext i
  exact congrArg (_ + ·) (ValueIdx.shapeCast_a_1a_apply _ _ 0 (i 1))

/-- The mean of the squares of each row of the down projection, as the host computes it. -/
theorem v6_eq (h : Mat 16384 2048) (hh : W2 m ρ c (Proc.devRef .tc main_v1) = h) :
    (V3 m ρ c main_v6 : Mat 16384 1) = Host.divf (broadcastInDim S16384x1 ![0] bcast_S16384_S16384x1_0
      (Host.reduceAdd (mulf h h : FVec Ideal S16384x2048 .f32) (constant (F := Ideal) S_ .f32 0x00000000#32) reducesTo_S16384x2048_S16384_d1 h_S_ : FVec Ideal S16384 .f32))
      (broadcastInDim S16384x1 ![] bcast_S_S16384x1 (constant (F := Ideal) S_ .f32 0x45000000#32)) := by
  show StableHlo.after hostOps1 _ _ = _
  entry_read
  rw [hh]

theorem v6_apply (h : Mat 16384 2048) (hh : W2 m ρ c (Proc.devRef .tc main_v1) = h) (r : Fin 16384) :
    (V3 m ρ c main_v6 : Mat 16384 1) (ix2 r 0) = meanSquare (fun j => h (ix2 r j)) := by
  rw [v6_eq m ρ c h hh]
  unfold meanSquare
  pointwise

theorem v7_eq : (V3 m ρ c main_v7 : Mat 1 2048) = shapeCast _ (a3 m c) sc1 := by
  refine Eq.trans ?_ (congrArg (fun x : Vec 2048 => shapeCast _ x sc1) (W2_args m ρ c main_arg3 (by decide)))
  show StableHlo.after hostOps1 _ _ = _
  entry_read
  rfl
theorem v8_eq : (V3 m ρ c main_v8 : Mat 1 2048) = shapeCast _ (a5 m c) sc1 := by
  refine Eq.trans ?_ (congrArg (fun x : Vec 2048 => shapeCast _ x sc1) (W2_args m ρ c main_arg5 (by decide)))
  show StableHlo.after hostOps1 _ _ = _
  entry_read
  rfl
theorem v9_eq : (V3 m ρ c main_v9 : Mat 1 2048) = shapeCast _ (a7 m c) sc1 := by
  refine Eq.trans ?_ (congrArg (fun x : Vec 2048 => shapeCast _ x sc1) (W2_args m ρ c main_arg7 (by decide)))
  show StableHlo.after hostOps1 _ _ = _
  entry_read
  rfl
theorem v10_eq : (V3 m ρ c main_v10 : Mat 1 64) = shapeCast _ (a9 m c) sc64 := by
  refine Eq.trans ?_ (congrArg (fun x : Vec 64 => shapeCast _ x sc64) (W2_args m ρ c main_arg9 (by decide)))
  show StableHlo.after hostOps1 _ _ = _
  entry_read
  rfl

/-- The probabilities of the second launch's row `r`. -/
theorem P_eq (r : Fin 16384) (e : Fin 64) :
    P (V3 m ρ c main_v1) (V3 m ρ c main_v6) (V3 m ρ c main_v7) (V3 m ρ c main_arg4) (V3 m ρ c main_v8) (V3 m ρ c main_arg6)
      (V3 m ρ c main_v9) (V3 m ρ c main_arg8) r e =
    probs gelu (a3 m c) (a4 m c) (a5 m c) (a6 m c) (a7 m c) (a8 m c) (hidden (a0 m c) (a1 m c) (a2 m c) r) e := by
  have h1 : (V3 m ρ c main_v1 : Mat 16384 2048) = resH (a0 m c) (a1 m c) (a2 m c) :=
    (W3_of m ρ c main_v1 (by decide)).trans (v1_eq m ρ c)
  have h6 := v6_apply m ρ c _ (v1_eq m ρ c) r
  have h4 : V3 m ρ c main_arg4 = a4 m c := W3_args m ρ c main_arg4 (by decide)
  have h5 : V3 m ρ c main_arg6 = a6 m c := W3_args m ρ c main_arg6 (by decide)
  have h8 : V3 m ρ c main_arg8 = a8 m c := W3_args m ρ c main_arg8 (by decide)
  unfold P
  have hc : ∀ (x : Vec 2048) (j : Fin 2048), shapeCast _ x sc1 (ix2 0 j) = x (ix1 j) := fun x j =>
    ValueIdx.shapeCast_a_1a_apply x sc1 0 j
  have h7 : (fun j => (V3 m ρ c main_v7 : Mat 1 2048) (ix2 0 j)) = fun j => a3 m c (ix1 j) := by
    funext j
    rw [v7_eq]
    exact hc _ j
  have h8' : (fun j => (V3 m ρ c main_v8 : Mat 1 2048) (ix2 0 j)) = fun j => a5 m c (ix1 j) := by
    funext j
    rw [v8_eq]
    exact hc _ j
  have h9 : (fun j => (V3 m ρ c main_v9 : Mat 1 2048) (ix2 0 j)) = fun j => a7 m c (ix1 j) := by
    funext j
    rw [v9_eq]
    exact hc _ j
  rw [h1, h6, h7, h8', h9, h4, h5, h8]
  rfl

/-- The three results at the end. -/
theorem w1_eq : (W4 m ρ c (Proc.devRef .tc main_v1) : Mat 16384 2048) = resH (a0 m c) (a1 m c) (a2 m c) := by
  rw [W4_of m ρ c main_v1 (by decide), W3_of m ρ c main_v1 (by decide)]
  exact v1_eq m ρ c

theorem b_eq (e : Fin 64) : (V3 m ρ c main_v10 : Mat 1 64) (ix2 0 e) = a9 m c (ix1 e) := by
  rw [v10_eq]
  exact ValueIdx.shapeCast_a_1a_apply _ _ 0 e

theorem w9_eq (hne : Apart gelu (a0 m c) (a1 m c) (a2 m c) (a3 m c) (a4 m c) (a5 m c) (a6 m c) (a7 m c) (a8 m c) (a9 m c)) :
    (W4 m ρ c (Proc.devRef .tc main_v11_0) : Mat 16384 8) =
      resP gelu (a0 m c) (a1 m c) (a2 m c) (a3 m c) (a4 m c) (a5 m c) (a6 m c) (a7 m c) (a8 m c) (a9 m c) := by
  refine (W4_arr m ρ c 9).trans ?_
  rw [final9 (V3 m ρ) c _ _ (P_eq m ρ c) (b_eq m ρ c) hne]
  rfl

theorem w10_eq (hne : Apart gelu (a0 m c) (a1 m c) (a2 m c) (a3 m c) (a4 m c) (a5 m c) (a6 m c) (a7 m c) (a8 m c) (a9 m c)) :
    (W4 m ρ c (Proc.devRef .tc main_v11_1) : IV 16384 8 32) =
      resI gelu (a0 m c) (a1 m c) (a2 m c) (a3 m c) (a4 m c) (a5 m c) (a6 m c) (a7 m c) (a8 m c) (a9 m c) := by
  refine (W4_arr m ρ c 10).trans ?_
  rw [final10 (V3 m ρ) c _ _ (P_eq m ρ c) (b_eq m ρ c) hne]
  rfl

/-- From any memory with no probability plus its bias at ⊥ the kernel runs to its end, the results are the router's, and the
    arguments are unchanged. -/
theorem run (hne : ∀ c, Apart gelu (a0 m c) (a1 m c) (a2 m c) (a3 m c) (a4 m c) (a5 m c) (a6 m c) (a7 m c) (a8 m c) (a9 m c)) :
    θ_run defs (onTc (τ := τ) (main (F := Ideal))) ⟨m, fun _ => 0, ρ⟩ (fun r => ∀ c : Dev nD,
      r.2.mem ((c.tc : Thread nD τ).loc main_v11_0) =
        resP gelu (a0 m c) (a1 m c) (a2 m c) (a3 m c) (a4 m c) (a5 m c) (a6 m c) (a7 m c) (a8 m c) (a9 m c)
      ∧ r.2.mem ((c.tc : Thread nD τ).loc main_v11_1) =
        resI gelu (a0 m c) (a1 m c) (a2 m c) (a3 m c) (a4 m c) (a5 m c) (a6 m c) (a7 m c) (a8 m c) (a9 m c)
      ∧ r.2.mem ((c.tc : Thread nD τ).loc main_v1) = resH (a0 m c) (a1 m c) (a2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  refine θ_run_mono (run_whole m ρ) fun r h c => ?_
  refine ⟨?_, ?_, ?_, ?_, ?_, ?_, ?_, ?_, ?_, ?_, ?_, ?_, ?_⟩
  · exact (h c _ (mem_uc main_v11_0 (by decide))).trans (w9_eq m ρ c (hne c))
  · exact (h c _ (mem_uc main_v11_1 (by decide))).trans (w10_eq m ρ c (hne c))
  · exact (h c _ (mem_uc main_v1 (by decide))).trans (w1_eq m ρ c)
  · exact (h c _ (mem_uc main_arg0 (by decide))).trans (W4_args m ρ c main_arg0 (by decide))
  · exact (h c _ (mem_uc main_arg1 (by decide))).trans (W4_args m ρ c main_arg1 (by decide))
  · exact (h c _ (mem_uc main_arg2 (by decide))).trans (W4_args m ρ c main_arg2 (by decide))
  · exact (h c _ (mem_uc main_arg3 (by decide))).trans (W4_args m ρ c main_arg3 (by decide))
  · exact (h c _ (mem_uc main_arg4 (by decide))).trans (W4_args m ρ c main_arg4 (by decide))
  · exact (h c _ (mem_uc main_arg5 (by decide))).trans (W4_args m ρ c main_arg5 (by decide))
  · exact (h c _ (mem_uc main_arg6 (by decide))).trans (W4_args m ρ c main_arg6 (by decide))
  · exact (h c _ (mem_uc main_arg7 (by decide))).trans (W4_args m ρ c main_arg7 (by decide))
  · exact (h c _ (mem_uc main_arg8 (by decide))).trans (W4_args m ρ c main_arg8 (by decide))
  · exact (h c _ (mem_uc main_arg9 (by decide))).trans (W4_args m ρ c main_arg9 (by decide))

end Cert.KernelErfIdeal.Out
end
-- ==== Proof.KernelErfClaim.lean ====
/- The value claim of KernelErfIdeal against ReferenceErfIdeal: on router weights without infinities both end with the same three results. -/
module

public import proofs.«01_k».proof.Defs
public import proofs.«01_k».proof.Proof.Gen.Kernel
public import proofs.«01_k».proof.Proof.Gen.KernelErf
public import proofs.«01_k».proof.Proof.Same
public import proofs.«01_k».proof.Proof.Congr
public import proofs.«01_k».proof.Proof.Pre
public import proofs.«01_k».proof.Proof.HostErf
public import proofs.«01_k».proof.Proof.KernelErfValue

@[expose] public section

noncomputable section

namespace Cert.KernelErfIdeal.Out

open Idealize.ShloMosaic Idealize.ShloMosaic.TcCoe Idealize.SL.Sem Idealize.ShloMosaic.StableHlo Cert.Router

/-- The reference's activation gives the kernel's results under the precondition, and the kernel's search by maxima finds them. -/
theorem same (m : (ℓ : Loc nD τ sig) → Buf (Elt Ideal) ℓ) (hpre : Cert.Pre_KernelErfIdeal_finite m) (c : Dev nD) :
    Apart gelu (a0 m c) (a1 m c) (a2 m c) (a3 m c) (a4 m c) (a5 m c) (a6 m c) (a7 m c) (a8 m c) (a9 m c)
    ∧ resP gelu (a0 m c) (a1 m c) (a2 m c) (a3 m c) (a4 m c) (a5 m c) (a6 m c) (a7 m c) (a8 m c) (a9 m c)
      = resP Cert.ReferenceErfIdeal.Out.gelu (a0 m c) (a1 m c) (a2 m c) (a3 m c) (a4 m c) (a5 m c) (a6 m c) (a7 m c) (a8 m c) (a9 m c)
    ∧ resI gelu (a0 m c) (a1 m c) (a2 m c) (a3 m c) (a4 m c) (a5 m c) (a6 m c) (a7 m c) (a8 m c) (a9 m c)
      = resI Cert.ReferenceErfIdeal.Out.gelu (a0 m c) (a1 m c) (a2 m c) (a3 m c) (a4 m c) (a5 m c) (a6 m c) (a7 m c) (a8 m c) (a9 m c) := by
  obtain ⟨h3, h4, h5, h6, h7, h8, h9⟩ := of_pre (a0 m c) (a1 m c) (a2 m c) (a3 m c) (a4 m c) (a5 m c) (a6 m c)
    (a7 m c) (a8 m c) (a9 m c) (hpre c)
  exact results_congr (fun x _ => gelu_erf_eq x) isReal_gelu_erf h3 h4 h5 h6 h7 h8 h9

/-- The value claim. -/
theorem algebraic : Cert.algebraic_KernelErfIdeal_ReferenceErfIdeal_pre_finite := by
  intro m g m' g' hpre hagree
  refine ⟨fun c => resP gelu (a0 m c) (a1 m c) (a2 m c) (a3 m c) (a4 m c) (a5 m c) (a6 m c) (a7 m c) (a8 m c) (a9 m c),
    fun c => resI gelu (a0 m c) (a1 m c) (a2 m c) (a3 m c) (a4 m c) (a5 m c) (a6 m c) (a7 m c) (a8 m c) (a9 m c),
    fun c => resH (a0 m c) (a1 m c) (a2 m c), run m g fun c => (same m hpre c).1, ?_⟩
  refine θ_run_mono (Cert.ReferenceErfIdeal.Out.run m' g') fun r h c => ?_
  obtain ⟨h0, h1, h2, hr⟩ := h c
  obtain ⟨e0, e1, e2, e3, e4, e5, e6, e7, e8, e9⟩ := hagree c
  have E0 : Cert.ReferenceErfIdeal.Out.a0 (launchContents m' c) = a0 m c := e0
  have E1 : Cert.ReferenceErfIdeal.Out.a1 (launchContents m' c) = a1 m c := e1
  have E2 : Cert.ReferenceErfIdeal.Out.a2 (launchContents m' c) = a2 m c := e2
  have E3 : Cert.ReferenceErfIdeal.Out.a3 (launchContents m' c) = a3 m c := e3
  have E4 : Cert.ReferenceErfIdeal.Out.a4 (launchContents m' c) = a4 m c := e4
  have E5 : Cert.ReferenceErfIdeal.Out.a5 (launchContents m' c) = a5 m c := e5
  have E6 : Cert.ReferenceErfIdeal.Out.a6 (launchContents m' c) = a6 m c := e6
  have E7 : Cert.ReferenceErfIdeal.Out.a7 (launchContents m' c) = a7 m c := e7
  have E8 : Cert.ReferenceErfIdeal.Out.a8 (launchContents m' c) = a8 m c := e8
  have E9 : Cert.ReferenceErfIdeal.Out.a9 (launchContents m' c) = a9 m c := e9
  have hs := same m hpre c
  exact ⟨h0.trans ((congrP E0 E1 E2 E3 E4 E5 E6 E7 E8 E9).trans hs.2.1.symm),
    h1.trans ((congrI E0 E1 E2 E3 E4 E5 E6 E7 E8 E9).trans hs.2.2.symm), h2.trans (congrH E0 E1 E2), hr⟩

end Cert.KernelErfIdeal.Out
end
-- ==== Proof.lean ====
/- The proof of the certificate: the four kernels and two references end with their arguments unchanged and every counter at zero,
   and on router weights without infinities each ideal kernel ends with its reference's three results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelErf
public import proofs.«01_k».proof.Proof.Gen.KernelErf.Skeleton
public import proofs.«01_k».proof.Proof.Gen.KernelErf.Launch
public import proofs.«01_k».proof.Proof.Gen.KernelErf.Points
public import proofs.«01_k».proof.Proof.Gen.KernelErf.Frame
public import proofs.«01_k».proof.Proof.Gen.KernelErfIdeal
public import proofs.«01_k».proof.Proof.Gen.KernelErfIdeal.Skeleton
public import proofs.«01_k».proof.Proof.Gen.KernelErfIdeal.Launch
public import proofs.«01_k».proof.Proof.Gen.KernelErfIdeal.Points
public import proofs.«01_k».proof.Proof.Gen.KernelErfIdeal.Frame
public import proofs.«01_k».proof.Proof.Gen.ReferenceErfIdeal
public import proofs.«01_k».proof.Proof.Gen.ReferenceErfIdeal.Run
public import proofs.«01_k».proof.Proof.Gen.Pre_finite
public import proofs.«01_k».proof.Proof.KernelClaim
public import proofs.«01_k».proof.Proof.KernelErfClaim
public import Idealize.ShloMosaic.Adequacy
public import Idealize.ShloMosaic.Init

@[expose] public section

noncomputable section

namespace Cert.Proof

open Idealize.ShloMosaic Idealize.SL.Sem Cert.Kernel

/-- The reference's run leaves its arguments as they were, and it declares no semaphore. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Out.run m ρ)

/-- The same of the reference with the exact activation. -/
theorem frame_reference_erf : Cert.quiescent_ReferenceErfIdeal := fun m ρ _ =>
  (θ_run Cert.ReferenceErfIdeal.defs _ _).mono (fun r h => ⟨fun c => (h c).2.2.2, sem_eq_zero_of_no_sems (by decide) r.2⟩)
    (Cert.ReferenceErfIdeal.Out.run m ρ)

/-- Everything the certificate claims. -/
theorem claim : Cert.Claim := ⟨Cert.Kernel.Gen.facts, Cert.KernelIdeal.Gen.facts, Cert.ReferenceIdeal.Gen.facts, Cert.KernelErf.Gen.facts, Cert.KernelErfIdeal.Gen.facts, Cert.ReferenceErfIdeal.Gen.facts, Cert.Pre_finite.Gen.facts,
  fun m ρ _ => Cert.Kernel.Gen.frame m ρ,
  fun m ρ _ => Cert.KernelIdeal.Gen.frame m ρ,
  fun m ρ _ => Cert.KernelIdeal.Gen.frame m ρ,
  frame_reference,
  fun m ρ _ => frame_reference m ρ trivial,
  fun m ρ _ => Cert.KernelErf.Gen.frame m ρ,
  fun m ρ _ => Cert.KernelErfIdeal.Gen.frame m ρ,
  fun m ρ _ => Cert.KernelErfIdeal.Gen.frame m ρ,
  frame_reference_erf,
  fun m ρ _ => frame_reference_erf m ρ trivial,
  trivial,
  Cert.KernelIdeal.Out.algebraic,
  trivial,
  Cert.KernelErfIdeal.Out.algebraic⟩

end Cert.Proof

end
